-- ==== Defs.lean ====
def Pre_Kernel [hPre_exchange_Kernel : Cert.Pre_exchange_Kernel.Facts] (m : (ℓ : Loc Cert.Kernel.nD Cert.Kernel.τ Cert.Kernel.sig) → Buf (Elt Bits) ℓ) : Prop :=
  ∀ c : Dev Cert.Kernel.nD,
    (Cert.Pre_exchange_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stay_Kernel [hPre_stay_Kernel : Cert.Pre_stay_Kernel.Facts] (m : (ℓ : Loc Cert.Kernel.nD Cert.Kernel.τ Cert.Kernel.sig) → Buf (Elt Bits) ℓ) : Prop :=
  ∀ c : Dev Cert.Kernel.nD,
    (Cert.Pre_stay_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_exchange_Kernel : Cert.Pre_exchange_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_exchange_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stay_Kernel [hPre_stay_Kernel : Cert.Pre_stay_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stay_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exchange_ReferenceIdeal [hPre_exchange_ReferenceIdeal : Cert.Pre_exchange_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exchange_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stay_ReferenceIdeal [hPre_stay_ReferenceIdeal : Cert.Pre_stay_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stay_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_exchange_Kernel : Cert.Pre_exchange_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stay_Kernel [hKernel : Cert.Kernel.Facts] [hPre_stay_Kernel : Cert.Pre_stay_Kernel.Facts] : Prop :=
  ∀ (m : (ℓ : Loc Cert.Kernel.nD Cert.Kernel.τ Cert.Kernel.sig) → Buf (Elt Bits) ℓ) (g : Dev Cert.Kernel.nD → PrngReg), Pre_Kernel_stay_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stay_Kernel [hKernelIdeal : Cert.KernelIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stay_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exchange_ReferenceIdeal [hReferenceIdeal : Cert.ReferenceIdeal.Facts] [hPre_exchange_ReferenceIdeal : Cert.Pre_exchange_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exchange_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stay_ReferenceIdeal [hReferenceIdeal : Cert.ReferenceIdeal.Facts] [hPre_stay_ReferenceIdeal : Cert.Pre_stay_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stay_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exchange_Kernel : Cert.Pre_exchange_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stay_Kernel [hKernelIdeal : Cert.KernelIdeal.Facts] [hReferenceIdeal : Cert.ReferenceIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stay_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 2] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_exchange_Kernel : Cert.Pre_exchange_Kernel.Facts) (hPre_stay_Kernel : Cert.Pre_stay_Kernel.Facts) (hPre_exchange_ReferenceIdeal : Cert.Pre_exchange_ReferenceIdeal.Facts) (hPre_stay_ReferenceIdeal : Cert.Pre_stay_ReferenceIdeal.Facts),
    quiescent_Kernel (hKernel := hKernel) (hPre_exchange_Kernel := hPre_exchange_Kernel)
    ∧ quiescent_Kernel_pre_stay_Kernel (hKernel := hKernel) (hPre_stay_Kernel := hPre_stay_Kernel)
    ∧ quiescent_KernelIdeal (hKernelIdeal := hKernelIdeal) (hPre_exchange_Kernel := hPre_exchange_Kernel)
    ∧ quiescent_KernelIdeal_pre_stay_Kernel (hKernelIdeal := hKernelIdeal) (hPre_stay_Kernel := hPre_stay_Kernel)
    ∧ quiescent_ReferenceIdeal (hReferenceIdeal := hReferenceIdeal)
    ∧ quiescent_ReferenceIdeal_pre_exchange_ReferenceIdeal (hReferenceIdeal := hReferenceIdeal) (hPre_exchange_ReferenceIdeal := hPre_exchange_ReferenceIdeal)
    ∧ quiescent_ReferenceIdeal_pre_stay_ReferenceIdeal (hReferenceIdeal := hReferenceIdeal) (hPre_stay_ReferenceIdeal := hPre_stay_ReferenceIdeal)
    ∧ preserves_Kernel_KernelIdeal
    ∧ algebraic_KernelIdeal_ReferenceIdeal (hKernelIdeal := hKernelIdeal) (hReferenceIdeal := hReferenceIdeal) (hPre_exchange_Kernel := hPre_exchange_Kernel)
    ∧ algebraic_KernelIdeal_ReferenceIdeal_pre_stay_Kernel (hKernelIdeal := hKernelIdeal) (hReferenceIdeal := hReferenceIdeal) (hPre_stay_Kernel := hPre_stay_Kernel)
-- ==== Pre_exchange_Kernel.lean ====
abbrev S1x1024x1024 : Shape := ⟨3, ![1, 1024, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x1024x1024 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_exchange_ReferenceIdeal.lean ====
abbrev S2x1024x1024 : Shape := ⟨3, ![2, 1024, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x1024x1024 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_stay_Kernel.lean ====
abbrev S1x1024x1024 : Shape := ⟨3, ![1, 1024, 1024]⟩
abbrev S2 : Shape := ⟨1, ![2]⟩

class Facts : Prop where

variable [Facts]

def fn {F : FTy → Type} [FloatOps F] (main_arg0 : FVec F S1x1024x1024 .bf16) (main_arg1 : IVec S2 32) : IVec S2 1 :=
  let main_v0 : IVec S2 32 := iotaInDim S2 32 0
  let main_v1 : IVec S2 1 := cmpi .eq main_arg1 main_v0
  main_v1
-- ==== Pre_stay_ReferenceIdeal.lean ====
abbrev S2x1024x1024 : Shape := ⟨3, ![2, 1024, 1024]⟩
abbrev S2 : Shape := ⟨1, ![2]⟩

class Facts : Prop where

variable [Facts]

def fn {F : FTy → Type} [FloatOps F] (main_arg0 : FVec F S2x1024x1024 .bf16) (main_arg1 : IVec S2 32) : IVec S2 1 :=
  let main_v0 : IVec S2 32 := iotaInDim S2 32 0
  let main_v1 : IVec S2 1 := cmpi .eq main_arg1 main_v0
  main_v1
-- ==== Kernel.lean ====
abbrev S1x1024x1024 : Shape := ⟨3, ![1, 1024, 1024]⟩
abbrev S2 : Shape := ⟨1, ![2]⟩
abbrev S1024x1024 : Shape := ⟨2, ![1024, 1024]⟩
abbrev S8 : Shape := ⟨1, ![8]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x1024x1024, .bf16⟩
  | .hbm, ⟨1, _⟩ => ⟨S2, .i32⟩
  | .hbm, ⟨2, _⟩ => ⟨S1x1024x1024, .bf16⟩
  | .local _ .vmem, ⟨0, _⟩ => ⟨S1x1024x1024, .bf16⟩
  | .local _ .vmem, ⟨1, _⟩ => ⟨S1024x1024, .bf16⟩
  | .local _ .smem, ⟨0, _⟩ => ⟨S2, .i32⟩
  | _, _ => ⟨S1x1024x1024, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : Index := Scalar.indexCast v8
  ![v9.toNat]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v14 : BitVec 32 := Scalar.muli v2 c4_i32_5
  let v15 : BitVec 32 := Scalar.addi c0_i32 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v16 : BitVec 32 := Scalar.muli v5 c2_i32_6
  let v17 : BitVec 32 := Scalar.addi v15 v16
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_3 v8
  let c1_i32_7 : BitVec 32 := 1#32
  let v18 : BitVec 32 := Scalar.muli v13 c1_i32_7
  let v19 : BitVec 32 := Scalar.addi v17 v18
  v19.toNat
def k0_dev2 (d0 : Dev nD) (v10 : BitVec 32) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v105 : BitVec 32 := Scalar.muli v2 c4_i32_71
  let v106 : BitVec 32 := Scalar.addi c0_i32_72 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v107 : BitVec 32 := Scalar.muli v5 c2_i32_73
  let v108 : BitVec 32 := Scalar.addi v106 v107
  let c1_i32_74 : BitVec 32 := 1#32
  let v109 : BitVec 32 := Scalar.muli v10 c1_i32_74
  let v110 : BitVec 32 := Scalar.addi v108 v109
  v110.toNat
def k0_cond1 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v25 : BitVec 32 := Scalar.extui v11
  let c0_i32_13 : BitVec 32 := 0#32
  let v26 : BitVec 1 := Scalar.cmpi .ne v25 c0_i32_13
  v26

def k0_dev3 (d0 : Dev nD) (v10 : BitVec 32) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v105 : BitVec 32 := Scalar.muli v2 c4_i32_71
  let v106 : BitVec 32 := Scalar.addi c0_i32_72 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v107 : BitVec 32 := Scalar.muli v5 c2_i32_73
  let v108 : BitVec 32 := Scalar.addi v106 v107
  let c1_i32_74 : BitVec 32 := 1#32
  let v109 : BitVec 32 := Scalar.muli v10 c1_i32_74
  let v110 : BitVec 32 := Scalar.addi v108 v109
  v110.toNat
def k0_cond3 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v35 : BitVec 32 := Scalar.extui v11
  let c0_i32_20 : BitVec 32 := 0#32
  let v36 : BitVec 1 := Scalar.cmpi .ne v35 c0_i32_20
  v36

def k0_dev4 (d0 : Dev nD) (v10 : BitVec 32) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v105 : BitVec 32 := Scalar.muli v2 c4_i32_71
  let v106 : BitVec 32 := Scalar.addi c0_i32_72 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v107 : BitVec 32 := Scalar.muli v5 c2_i32_73
  let v108 : BitVec 32 := Scalar.addi v106 v107
  let c1_i32_74 : BitVec 32 := 1#32
  let v109 : BitVec 32 := Scalar.muli v10 c1_i32_74
  let v110 : BitVec 32 := Scalar.addi v108 v109
  v110.toNat
def k0_cond5 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v45 : BitVec 32 := Scalar.extui v11
  let c0_i32_27 : BitVec 32 := 0#32
  let v46 : BitVec 1 := Scalar.cmpi .ne v45 c0_i32_27
  v46

def k0_dev5 (d0 : Dev nD) (v10 : BitVec 32) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v105 : BitVec 32 := Scalar.muli v2 c4_i32_70
  let v106 : BitVec 32 := Scalar.addi c0_i32_71 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v107 : BitVec 32 := Scalar.muli v5 c2_i32_72
  let v108 : BitVec 32 := Scalar.addi v106 v107
  let c1_i32_73 : BitVec 32 := 1#32
  let v109 : BitVec 32 := Scalar.muli v10 c1_i32_73
  let v110 : BitVec 32 := Scalar.addi v108 v109
  v110.toNat
def k0_cond7 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v55 : BitVec 32 := Scalar.extui v11
  let c0_i32_34 : BitVec 32 := 0#32
  let v56 : BitVec 1 := Scalar.cmpi .ne v55 c0_i32_34
  v56

def k0_dev6 (d0 : Dev nD) (v10 : BitVec 32) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v105 : BitVec 32 := Scalar.muli v2 c4_i32_71
  let v106 : BitVec 32 := Scalar.addi c0_i32_72 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v107 : BitVec 32 := Scalar.muli v5 c2_i32_73
  let v108 : BitVec 32 := Scalar.addi v106 v107
  let c1_i32_74 : BitVec 32 := 1#32
  let v109 : BitVec 32 := Scalar.muli v10 c1_i32_74
  let v110 : BitVec 32 := Scalar.addi v108 v109
  v110.toNat
def k0_cond9 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v65 : BitVec 32 := Scalar.extui v11
  let c0_i32_41 : BitVec 32 := 0#32
  let v66 : BitVec 1 := Scalar.cmpi .ne v65 c0_i32_41
  v66

def k0_dev7 (d0 : Dev nD) (v10 : BitVec 32) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v105 : BitVec 32 := Scalar.muli v2 c4_i32_70
  let v106 : BitVec 32 := Scalar.addi c0_i32_71 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v107 : BitVec 32 := Scalar.muli v5 c2_i32_72
  let v108 : BitVec 32 := Scalar.addi v106 v107
  let c1_i32_73 : BitVec 32 := 1#32
  let v109 : BitVec 32 := Scalar.muli v10 c1_i32_73
  let v110 : BitVec 32 := Scalar.addi v108 v109
  v110.toNat
def k0_cond11 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v75 : BitVec 32 := Scalar.extui v11
  let c0_i32_48 : BitVec 32 := 0#32
  let v76 : BitVec 1 := Scalar.cmpi .ne v75 c0_i32_48
  v76

def k0_dev8 (d0 : Dev nD) (v10 : BitVec 32) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v105 : BitVec 32 := Scalar.muli v2 c4_i32_70
  let v106 : BitVec 32 := Scalar.addi c0_i32_71 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v107 : BitVec 32 := Scalar.muli v5 c2_i32_72
  let v108 : BitVec 32 := Scalar.addi v106 v107
  let c1_i32_73 : BitVec 32 := 1#32
  let v109 : BitVec 32 := Scalar.muli v10 c1_i32_73
  let v110 : BitVec 32 := Scalar.addi v108 v109
  v110.toNat
def k0_cond13 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v85 : BitVec 32 := Scalar.extui v11
  let c0_i32_55 : BitVec 32 := 0#32
  let v86 : BitVec 1 := Scalar.cmpi .ne v85 c0_i32_55
  v86

def k0_dev9 (d0 : Dev nD) (v10 : BitVec 32) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v105 : BitVec 32 := Scalar.muli v2 c4_i32_70
  let v106 : BitVec 32 := Scalar.addi c0_i32_71 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v107 : BitVec 32 := Scalar.muli v5 c2_i32_72
  let v108 : BitVec 32 := Scalar.addi v106 v107
  let c1_i32_73 : BitVec 32 := 1#32
  let v109 : BitVec 32 := Scalar.muli v10 c1_i32_73
  let v110 : BitVec 32 := Scalar.addi v108 v109
  v110.toNat
def k0_cond15 (d0 : Dev nD) (v10 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 1 := Scalar.cmpi .ne v10 v8
  let v95 : BitVec 32 := Scalar.extui v11
  let c0_i32_62 : BitVec 32 := 0#32
  let v96 : BitVec 1 := Scalar.cmpi .ne v95 c0_i32_62
  v96

def k0_chk1 (d0 : Dev nD) (v10 : BitVec 32) : Prop :=
  (∀ (k0_h1 : k0_cond1 d0 v10 = 1#1), (k0_dev2 d0 v10) < nD) ∧
  (∀ (k0_h3 : k0_cond3 d0 v10 = 1#1), (k0_dev3 d0 v10) < nD) ∧
  (∀ (k0_h5 : k0_cond5 d0 v10 = 1#1), (k0_dev4 d0 v10) < nD) ∧
  (∀ (k0_h7 : k0_cond7 d0 v10 = 1#1), (k0_dev5 d0 v10) < nD) ∧
  (∀ (k0_h9 : k0_cond9 d0 v10 = 1#1), (k0_dev6 d0 v10) < nD) ∧
  (∀ (k0_h11 : k0_cond11 d0 v10 = 1#1), (k0_dev7 d0 v10) < nD) ∧
  (∀ (k0_h13 : k0_cond13 d0 v10 = 1#1), (k0_dev8 d0 v10) < nD) ∧
  (∀ (k0_h15 : k0_cond15 d0 v10 = 1#1), (k0_dev9 d0 v10) < nD)
theorem k0_dev2_lt : ∀ (d0 : Dev nD) (v10 : BitVec 32) (k0_hw1 : k0_chk1 d0 v10), ∀ (k0_h1 : k0_cond1 d0 v10 = 1#1), (k0_dev2 d0 v10) < nD := fun d0 v10 k0_hw1 k0_h1 => k0_hw1.1 k0_h1
theorem k0_dev3_lt : ∀ (d0 : Dev nD) (v10 : BitVec 32) (k0_hw1 : k0_chk1 d0 v10), ∀ (k0_h3 : k0_cond3 d0 v10 = 1#1), (k0_dev3 d0 v10) < nD := fun d0 v10 k0_hw1 k0_h3 => k0_hw1.2.1 k0_h3
theorem k0_dev4_lt : ∀ (d0 : Dev nD) (v10 : BitVec 32) (k0_hw1 : k0_chk1 d0 v10), ∀ (k0_h5 : k0_cond5 d0 v10 = 1#1), (k0_dev4 d0 v10) < nD := fun d0 v10 k0_hw1 k0_h5 => k0_hw1.2.2.1 k0_h5
theorem k0_dev5_lt : ∀ (d0 : Dev nD) (v10 : BitVec 32) (k0_hw1 : k0_chk1 d0 v10), ∀ (k0_h7 : k0_cond7 d0 v10 = 1#1), (k0_dev5 d0 v10) < nD := fun d0 v10 k0_hw1 k0_h7 => k0_hw1.2.2.2.1 k0_h7
theorem k0_dev6_lt : ∀ (d0 : Dev nD) (v10 : BitVec 32) (k0_hw1 : k0_chk1 d0 v10), ∀ (k0_h9 : k0_cond9 d0 v10 = 1#1), (k0_dev6 d0 v10) < nD := fun d0 v10 k0_hw1 k0_h9 => k0_hw1.2.2.2.2.1 k0_h9
theorem k0_dev7_lt : ∀ (d0 : Dev nD) (v10 : BitVec 32) (k0_hw1 : k0_chk1 d0 v10), ∀ (k0_h11 : k0_cond11 d0 v10 = 1#1), (k0_dev7 d0 v10) < nD := fun d0 v10 k0_hw1 k0_h11 => k0_hw1.2.2.2.2.2.1 k0_h11
theorem k0_dev8_lt : ∀ (d0 : Dev nD) (v10 : BitVec 32) (k0_hw1 : k0_chk1 d0 v10), ∀ (k0_h13 : k0_cond13 d0 v10 = 1#1), (k0_dev8 d0 v10) < nD := fun d0 v10 k0_hw1 k0_h13 => k0_hw1.2.2.2.2.2.2.1 k0_h13
theorem k0_dev9_lt : ∀ (d0 : Dev nD) (v10 : BitVec 32) (k0_hw1 : k0_chk1 d0 v10), ∀ (k0_h15 : k0_cond15 d0 v10 = 1#1), (k0_dev9 d0 v10) < nD := fun d0 v10 k0_hw1 k0_h15 => k0_hw1.2.2.2.2.2.2.2 k0_h15

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .bf16⟩
  | .hbm, ⟨14, _⟩ => ⟨S2x1024x1024, .f32⟩
  | .hbm, ⟨15, _⟩ => ⟨S2x1024x1024, .bf16⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Protocol.lean ====
/-
The exchange protocol of `k`, for both permutations of the two shards at once.

Eight devices (x, y, z) in a 2 × 2 × 2 mesh; `peer c` is `c` with its z coordinate flipped. A mode `b : Bool` says which
permutation runs: `true` the exchange (`pi = [1, 0]`), `false` the identity (`pi = [0, 1]`). Cells of device `c`:

* the runtime's barrier cell: one unit, from `peer c`'s signal, before any copy. In mode `true` it hands `c` the peer's
  result array, row block by row block, at any contents (where `c`'s copies land); in mode `false` nothing;
* send cell `k < 8`: one copy's credit. Mode `true`: the issuer's half of `c`'s addressed copy of row block `k`, handing back
  the send buffer's block; mode `false`: `c`'s local copy of row block `k`, handing `c` its own result block `k` holding its
  own shard's rows and the send buffer's block;
* receive cell `k < 8`: mode `true`: `peer c`'s copy of row block `k`, handing `c` its result block `k` holding the peer's
  shard's rows; mode `false`: nothing ever.

Each device waits on its barrier cell first (owing its peer the eight copies in mode `true`), then issues the copies, then
waits on the sends and receives owing nothing.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.Ring
public import Idealize.ShloMosaic.Lib.Tactic

@[expose] public section

noncomputable section

namespace Cert.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's rounds and the protocol's own -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

set_option backward.proofsInPublic true in
/-- The device across the z axis: the lowest bit of the device number flipped. -/
def peer (c : Dev nD) : Dev nD := ⟨c.val + 1 - 2 * (c.val % 2), by have := c.isLt; have h : nD = 8 := rfl; omega⟩

theorem peer_peer (c : Dev nD) : peer (peer c) = c := by revert c; decide

/-- The exchange of the two halves of the mesh, its own inverse. -/
def swapE : Dev nD ≃ Dev nD := ⟨peer, peer, peer_peer, peer_peer⟩

/-- Where a device's copies land: the peer in the exchange, itself in the identity. Also whose shard a device ends with. -/
def tgt (b : Bool) (c : Dev nD) : Dev nD := if b then peer c else c

theorem tgt_tgt (b : Bool) (c : Dev nD) : tgt b (tgt b c) = c := by
  unfold tgt; cases b
  · rfl
  · exact peer_peer c

/-! ## The row blocks -/

abbrev piM : Memref sig .tc .smem S2 .i32 := Memref.whole cc0_stg0_0
abbrev xM : Memref sig .tc .vmem S1x1024x1024 .bf16 := Memref.whole cc0_stg1_0
abbrev bM : Memref sig .tc .vmem S1024x1024 .bf16 := Memref.whole cc0_scratch0
abbrev rM : Memref sig .tc .hbm S1x1024x1024 .bf16 := Memref.whole main_v1

set_option backward.proofsInPublic true in
theorem inb_b (k : Fin 8) : ∀ a, (![128 * k.val, 0] : Fin 2 → Nat) a + S128x1024.size a ≤ S1024x1024.size a := by
  have := k.isLt
  intro a; fin_cases a
  · show 128 * k.val + 128 ≤ 1024; omega
  · show 0 + 1024 ≤ 1024; omega
set_option backward.proofsInPublic true in
theorem inb_r (k : Fin 8) : ∀ a, (![0, 128 * k.val, 0] : Fin 3 → Nat) a + S1x128x1024.size a ≤ S1x1024x1024.size a := by
  have := k.isLt
  intro a; fin_cases a
  · show 0 + 1 ≤ 1; omega
  · show 128 * k.val + 128 ≤ 1024; omega
  · show 0 + 1024 ≤ 1024; omega
set_option backward.proofsInPublic true in
theorem inb_s (k : Fin 8) : ∀ a, (![k.val] : Fin 1 → Nat) a + S1.size a ≤ S8.size a := by
  have := k.isLt
  intro a; fin_cases a
  show k.val + 1 ≤ 8; omega

/-- Row block `k` of a 1024 × 1024 buffer, and of a 1 × 1024 × 1024 one. -/
abbrev bR (k : Fin 8) : Rect S1024x1024 := Rect.unit (s := S1024x1024) ![128 * k.val, 0] S128x1024.size (inb_b k)
abbrev rR (k : Fin 8) : Rect S1x1024x1024 := Rect.unit (s := S1x1024x1024) ![0, 128 * k.val, 0] S1x128x1024.size (inb_r k)

/-- Row block `k` of the send buffer, and of the result array. -/
abbrev sM (k : Fin 8) : Memref sig .tc .vmem S128x1024 .bf16 := bM.slice (bR k) (fun _ => rfl)
abbrev oM (k : Fin 8) : Memref sig .tc .hbm S128x1024 .bf16 :=
  (rM.slice (rR k) (fun _ => rfl)).squeeze S128x1024 squeezes_S1x128x1024_S128x1024

/-! ## The cells -/

abbrev barS : Sem sig := (SemArray.scalar (sig.barrier 0 rfl) : Sems sig S_).sem
abbrev sendS (k : Fin 8) : DmaSem sig := ((cc0_scratch1.slice (Rect.unit (s := S8) ![k.val] S1.size (inb_s k))).squeeze S_ squeezes_S1_S_).sem
abbrev recvS (k : Fin 8) : DmaSem sig := ((cc0_scratch2.slice (Rect.unit (s := S8) ![k.val] S1.size (inb_s k))).squeeze S_ squeezes_S1_S_).sem

/-- A device's cells: `none` the barrier, `some (false, k)` the send cell of row block `k`, `some (true, k)` the receive cell. -/
abbrev CK : Type := Option (Bool × Fin 8)

abbrev csem : CK → SemLoc sig
  | none => .reg barS
  | some (false, k) => .dma (sendS k)
  | some (true, k) => .dma (recvS k)

abbrev kcell (c : Dev nD) (i : CK) : GSem nD τ sig := ((c : Thread nD τ), csem i)
abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

set_option backward.proofsInPublic true in
/-- Which of the protocol's cells a semaphore is. -/
def which : SemLoc sig → Option CK
  | .reg _ => some none
  | .dma q => if q.val < 2 then none else if q.val < 10 then some (some (false, Fin.ofNat 8 (q.val - 2)))
      else some (some (true, Fin.ofNat 8 (q.val - 10)))

theorem which_csem (i : CK) : which (csem i) = some i := by revert i; decide

theorem csem_inj : Function.Injective csem := fun i j h =>
  Option.some.inj ((which_csem i).symm.trans ((congrArg which h).trans (which_csem j)))

/-- The credit one row block's copy adds to a cell. -/
abbrev N : ℕ := (oM 0).view.dmaCredit
theorem N_pos : 0 < N := View.dmaCredit_pos _ (by decide)
theorem amount_o (k : Fin 8) (q : DmaSem sig) : (oM k).view.amount (.dma q) = N := rfl
theorem credit_s (k : Fin 8) : (sM k).view.dmaCredit = N := rfl
theorem credit_o (k : Fin 8) : (oM k).view.dmaCredit = N := rfl

/-! ## Contents -/

/-- Device `c`'s shard, at the result array's type. -/
def X (c : Dev nD) : Buf (Elt F) ((c : Thread nD τ).loc main_v1) := m ((c : Thread nD τ).loc main_arg0)

/-- Device `c`'s row block `k`, as the kernel stores it in the send buffer. -/
def blkV (c : Dev nD) (k : Fin 8) : S128x1024.Idx → Elt F .bf16 := fun j => X m c ((oM k).view.emb j)

def sPts (c : Dev nD) (k : Fin 8) (f : Buf (Elt F) ((sM k).view.loc (c : Thread nD τ))) : sProp 𝕄 :=
  (sM k).view.loc (c : Thread nD τ) ↦[(sM k).view.set]{fullShare} f
def oPts (c : Dev nD) (k : Fin 8) (f : Buf (Elt F) ((oM k).view.loc (c : Thread nD τ))) : sProp 𝕄 :=
  (oM k).view.loc (c : Thread nD τ) ↦[(oM k).view.set]{fullShare} f

omit [FloatOps F] in
instance sPts_storable (c : Dev nD) (k) (f) : BI.Storable (upEmb : UEmb _ 𝕄) (sPts (F := F) c k f) := by unfold sPts; infer_instance
omit [FloatOps F] in
instance oPts_storable (c : Dev nD) (k) (f) : BI.Storable (upEmb : UEmb _ 𝕄) (oPts (F := F) c k f) := by unfold oPts; infer_instance

/-! ## The schedule -/

/-- What a device's barrier cell hands it: in the exchange, its peer's result array by row blocks. -/
def barPay (b : Bool) (c : Dev nD) : sProp 𝕄 := if b then bigSep Finset.univ fun k : Fin 8 => iprop(∃ f, oPts (peer c) k f) else iprop(emp)

/-- What send cell `k` hands device `c`: the send buffer's block back, and in the identity its result's block, landed. -/
def sendPay (b : Bool) (c : Dev nD) (k : Fin 8) : sProp 𝕄 :=
  if b then iprop(∃ f, sPts c k f) else iprop(oPts c k (X m c) ∗ ∃ f, sPts c k f)

/-- What receive cell `k` hands device `c` in the exchange: its result's block holding the peer's rows. -/
def recvPay (c : Dev nD) (k : Fin 8) : sProp 𝕄 := oPts c k (X m (peer c))

/-- Which cells have a duty, and what each pays and hands over. -/
def dut (b : Bool) : Option CK → Finset Unit
  | some (some (true, _)) => if b then {()} else ∅
  | some _ => {()}
  | none => ∅
def amt : Option CK → ℕ
  | some none => 1
  | _ => N
def pay (b : Bool) (c : Dev nD) : Option CK → sProp 𝕄
  | some none => barPay b c
  | some (some (false, k)) => sendPay m b c k
  | some (some (true, k)) => recvPay m c k
  | none => iprop(emp)

/-- The protocol's schedule: one round, one duty per cell that is paid at all. -/
def rd (b : Bool) : Rounds.Schedule (GSem nD τ sig) Unit 𝕄 where
  duties g r := if r = 0 ∧ g.1.2 = .tc then dut b (which g.2) else ∅
  unitless _ := False
  amount g _ _ := amt (which g.2)
  payload g _ _ := pay m b g.1.1 (which g.2)
  amount_pos g _ _ _ := by
    rcases which g.2 with _ | _ | _
    · exact N_pos
    · exact Nat.one_pos
    · exact N_pos

instance rd_storable (b : Bool) (g : GSem nD τ sig) (r : ℕ) (d : Unit) :
    BI.Storable (upEmb : UEmb _ 𝕄) ((rd (F := F) m b).payload g r d) := by
  show BI.Storable upEmb (pay m b g.1.1 (which g.2))
  rcases which g.2 with _ | _ | ⟨_ | _, k⟩
  · exact (inferInstance : BI.Storable upEmb (iprop(emp) : sProp 𝕄))
  · show BI.Storable upEmb (barPay b g.1.1); unfold barPay; split <;> infer_instance
  · show BI.Storable upEmb (sendPay m b g.1.1 k); unfold sendPay; split <;> infer_instance
  · show BI.Storable upEmb (recvPay m g.1.1 k); unfold recvPay; infer_instance

section Sched
variable (b : Bool) (c : Dev nD) (i : CK) (k : Fin 8)

omit [FloatOps F] in
theorem duties_at : (rd (F := F) m b).duties (kcell c i) 0 = dut b (some i) := by
  show (if 0 = 0 ∧ (c : Thread nD τ).2 = .tc then dut b (which (csem i)) else ∅) = _
  rw [if_pos ⟨rfl, rfl⟩, which_csem]
omit [FloatOps F] in
theorem amount_at (d : Unit) : (rd (F := F) m b).amount (kcell c i) 0 d = amt (some i) := by
  show amt (which (csem i)) = _; rw [which_csem]
omit [FloatOps F] in
theorem payload_at (d : Unit) : (rd (F := F) m b).payload (kcell c i) 0 d = pay m b c (some i) := by
  show pay m b c (which (csem i)) = _; rw [which_csem]
omit [FloatOps F] in
theorem duties_later (g : GSem nD τ sig) : ∀ r, 1 ≤ r → (rd (F := F) m b).duties g r = ∅ :=
  fun r hr => if_neg fun h => by omega
omit [FloatOps F] in
/-- In the identity a receive cell has no duty at all. -/
theorem duties_recv_stay (g : GSem nD τ sig) (hg : which g.2 = some (some (true, k))) :
    ∀ r, 0 ≤ r → (rd (F := F) m false).duties g r = ∅ := fun r _ => by
  show (if r = 0 ∧ g.1.2 = .tc then dut false (which g.2) else ∅) = _
  rw [hg]; split <;> rfl

omit [FloatOps F] in
/-- A cell with its duty expects that duty's amount, -/
theorem expect_at (h : dut b (some i) = {()}) : (rd (F := F) m b).expect (kcell c i) 0 = amt (some i) := by
  unfold Schedule.expect Schedule.amountOf; rw [duties_at, h, Finset.sum_singleton, amount_at]
omit [FloatOps F] in
/-- and the rest of its round, nothing taken, is that duty's payload. -/
theorem rest_at (h : dut b (some i) = {()}) :
    bigSep ((rd (F := F) m b).duties (kcell c i) 0 \ ∅) (fun d => (rd (F := F) m b).payload (kcell c i) 0 d) = pay m b c (some i) := by
  rw [Finset.sdiff_empty, duties_at, h, bigSep_singleton, payload_at]

end Sched

/-! ## What a device owes; the levels -/

/-- What `c` still owes its peer's receive cells when the copies of the row blocks before `n` are issued. -/
def oweFrom (b : Bool) (c : Dev nD) (n : ℕ) : CellTallies nD τ sig Unit :=
  ∑ k ∈ Finset.univ.filter (fun k : Fin 8 => b = true ∧ n ≤ k.val), tallyAt (recvCell (peer c) k) () N

/-- At launch: that of every row block and the signal on the peer's barrier cell. -/
def O₀ (b : Bool) (c : Dev nD) : CellTallies nD τ sig Unit := oweFrom b c 0 + tallyAt (barCell (peer c)) () 1

theorem oweFrom_stay (c : Dev nD) (n : ℕ) : oweFrom false c n = 0 := by
  unfold oweFrom; rw [Finset.filter_false_of_mem fun k _ h => Bool.false_ne_true h.1, Finset.sum_empty]

theorem oweFrom_end (b : Bool) (c : Dev nD) : oweFrom b c 8 = 0 := by
  unfold oweFrom; rw [Finset.filter_false_of_mem fun k _ h => by have := k.isLt; have := h.2; omega, Finset.sum_empty]

/-- Issuing row block `k`'s copy pays its term. -/
theorem oweFrom_step (c : Dev nD) (k : Fin 8) : oweFrom true c k.val = oweFrom true c (k.val + 1) + tallyAt (recvCell (peer c) k) () N := by
  unfold oweFrom
  have h : Finset.univ.filter (fun j : Fin 8 => true = true ∧ k.val ≤ j.val)
      = insert k (Finset.univ.filter fun j : Fin 8 => true = true ∧ k.val + 1 ≤ j.val) := by
    ext j; simp only [Finset.mem_filter, Finset.mem_univ, true_and, Finset.mem_insert, Fin.ext_iff]; omega
  rw [h, Finset.sum_insert (by simp), add_comm]

def L (g : GSem nD τ sig) : Finset Unit := if g.1.2 = .tc then {()} else ∅

/-- barrier cells at 1, receive cells at 2, everything else (staging, send) at 0. -/
def lvl : Option CK → ℕ
  | some none => 1
  | some (some (true, _)) => 2
  | _ => 0
def lv (g : GSem nD τ sig) (_ : Unit) : ℕ := lvl (which g.2)

theorem lv_at (c : Dev nD) (i : CK) (u : Unit) : lv (kcell c i) u = lvl (some i) := by
  show lvl (which (csem i)) = _; rw [which_csem]

theorem L_of_ne (g : GSem nD τ sig) (h : g.1.2 ≠ .tc) : L g = ∅ := if_neg h
theorem L_tc (c : Dev nD) (sm : SemLoc sig) : L ((c : Thread nD τ), sm) = {()} := if_pos rfl

theorem oweFrom_pos {b : Bool} {c : Dev nD} {n : ℕ} {g : GSem nD τ sig} {u : Unit} (h : 0 < oweFrom b c n g u) :
    ∃ k, g = recvCell (peer c) k := by
  by_contra hn
  have hz : oweFrom b c n g u = 0 := by
    unfold oweFrom
    rw [Finset.sum_apply, Finsupp.finset_sum_apply]
    refine Finset.sum_eq_zero fun k _ => ?_
    rw [tallyAt_apply, if_neg fun h' => hn ⟨k, h'.1⟩]
  omega

theorem O₀_pos {b : Bool} {c : Dev nD} {g : GSem nD τ sig} {u : Unit} (h : 0 < O₀ b c g u) :
    (∃ k, g = recvCell (peer c) k) ∨ g = barCell (peer c) := by
  unfold O₀ at h
  rw [Pi.add_apply, Finsupp.add_apply, tallyAt_apply] at h
  by_cases h1 : g = barCell (peer c)
  · exact .inr h1
  · rw [if_neg fun h' => h1 h'.1, Nat.add_zero] at h
    exact .inl (oweFrom_pos h)

omit [FloatOps F] in
/-- A staging wait is below everything owed. -/
theorem mayWait_stage (b : Bool) (c : Dev nD) (q : DmaSem sig) (hq : which (.dma q) = none) (O : CellTallies nD τ sig Unit) (hO : O = O₀ b c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; show lvl (which (.dma q)) ≤ 0; rw [hq]; exact Nat.le_refl 0)
      (fun g u hg => by
        rcases O₀_pos hg with ⟨k, rfl⟩ | rfl
        · rw [show lv (recvCell (peer c) k) u = 2 from lv_at (peer c) (some (true, k)) u]; decide
        · rw [show lv (barCell (peer c)) u = 1 from lv_at (peer c) none u]; decide)
  · rw [MayWait_zero]; iintro -; iempintro

omit [FloatOps F] in
/-- At its barrier wait a device owes its peer's receive cells only, which are above its barrier cell. -/
theorem mayWait_bar (b : Bool) (c : Dev nD) :
    (levAts L lv : sProp 𝕄) ⊢ MayWait (c : Thread nD τ) (.reg barS) () (oweFrom b c 0) :=
  MayOwe.of_cut (L := L) (lev := lv) 1 (fun p hp => by rw [Finset.mem_singleton.mp hp, L_tc]; exact Finset.mem_singleton_self _)
    (fun g u hg => by obtain ⟨k, rfl⟩ := oweFrom_pos hg; exact Finset.mem_singleton_self _)
    (fun p hp => by rw [Finset.mem_singleton.mp hp, show lv (((c : Thread nD τ), SemLoc.reg barS) : GSem nD τ sig) () = 1 from lv_at c none ()])
    (fun g u hg => by
      obtain ⟨k, rfl⟩ := oweFrom_pos hg
      rw [show lv (recvCell (peer c) k) u = 2 from lv_at (peer c) (some (true, k)) u]; decide)

end Cert.Perm

end
-- ==== Proof.Steps.lean ====
/-
The steps of `k`'s body, each stated once for every row block: storing a row block of the shard in the send buffer, copying
it to the device it goes to, waiting for the copies. And the two buffers held whole against held by row blocks.
-/
module

public import proofs.«01_k».proof.Proof.Protocol

@[expose] public section

noncomputable section

namespace Cert.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The row blocks partition their buffers -/

abbrev sSet (k : Fin 8) : Finset S1024x1024.Idx := (bR k).set
abbrev oSet (k : Fin 8) : Finset S1x1024x1024.Idx := (rR k).set

theorem set_s (k : Fin 8) : (sM k).view.set = sSet k := View.set_slice_whole _ _
theorem set_o (k : Fin 8) : (oM k).view.set = oSet k := by
  show ((rM.view.slice (rR k)).reshape _ _).set = _
  rw [View.set_reshape]; exact View.set_slice_whole _ _

theorem disj_s (k j : Fin 8) (h : k ≠ j) : Disjoint (sSet k) (sSet j) := by
  have hk : k.val ≠ j.val := fun e => h (Fin.ext e)
  refine Rect.unit_disjoint (0 : Fin 2) ?_
  show 128 * k.val + 128 ≤ 128 * j.val ∨ 128 * j.val + 128 ≤ 128 * k.val
  omega
theorem disj_o (k j : Fin 8) (h : k ≠ j) : Disjoint (oSet k) (oSet j) := by
  have hk : k.val ≠ j.val := fun e => h (Fin.ext e)
  refine Rect.unit_disjoint (1 : Fin 3) ?_
  show 128 * k.val + 128 ≤ 128 * j.val ∨ 128 * j.val + 128 ≤ 128 * k.val
  omega

theorem cover_s : (Finset.univ : Finset (Fin 8)).biUnion sSet = Finset.univ := by
  refine Finset.eq_univ_iff_forall.mpr fun i => ?_
  have h0 : (i 0 : ℕ) < 1024 := (i 0).isLt
  have h1 : (i 1 : ℕ) < 1024 := (i 1).isLt
  refine Finset.mem_biUnion.mpr ⟨⟨(i 0 : ℕ) / 128, by omega⟩, Finset.mem_univ _, Rect.mem_set_unit.mpr fun a => ?_⟩
  fin_cases a
  · show 128 * ((i 0 : ℕ) / 128) ≤ (i 0 : ℕ) ∧ (i 0 : ℕ) < 128 * ((i 0 : ℕ) / 128) + 128; omega
  · show 0 ≤ (i 1 : ℕ) ∧ (i 1 : ℕ) < 0 + 1024; omega
theorem cover_o : (Finset.univ : Finset (Fin 8)).biUnion oSet = Finset.univ := by
  refine Finset.eq_univ_iff_forall.mpr fun i => ?_
  have h0 : (i 0 : ℕ) < 1 := (i 0).isLt
  have h1 : (i 1 : ℕ) < 1024 := (i 1).isLt
  have h2 : (i 2 : ℕ) < 1024 := (i 2).isLt
  refine Finset.mem_biUnion.mpr ⟨⟨(i 1 : ℕ) / 128, by omega⟩, Finset.mem_univ _, Rect.mem_set_unit.mpr fun a => ?_⟩
  fin_cases a
  · show 0 ≤ (i 0 : ℕ) ∧ (i 0 : ℕ) < 0 + 1; omega
  · show 128 * ((i 1 : ℕ) / 128) ≤ (i 1 : ℕ) ∧ (i 1 : ℕ) < 128 * ((i 1 : ℕ) / 128) + 128; omega
  · show 0 ≤ (i 2 : ℕ) ∧ (i 2 : ℕ) < 0 + 1024; omega

omit [FloatOps F] in
theorem sPts_eq (c : Dev nD) (k : Fin 8) (f : Buf (Elt F) ((c : Thread nD τ).loc cc0_scratch0)) :
    sPts c k f = (((c : Thread nD τ).loc cc0_scratch0) ↦[sSet k]{fullShare} f : sProp 𝕄) :=
  congrArg (fun S => (((c : Thread nD τ).loc cc0_scratch0) ↦[S]{fullShare} f : sProp 𝕄)) (set_s k)
omit [FloatOps F] in
theorem oPts_eq (c : Dev nD) (k : Fin 8) (f : Buf (Elt F) ((c : Thread nD τ).loc main_v1)) :
    oPts c k f = (((c : Thread nD τ).loc main_v1) ↦[oSet k]{fullShare} f : sProp 𝕄) :=
  congrArg (fun S => (((c : Thread nD τ).loc main_v1) ↦[S]{fullShare} f : sProp 𝕄)) (set_o k)

omit [FloatOps F] in
/-- The send buffer whole is its row blocks, -/
theorem s_split (c : Dev nD) (f : Buf (Elt F) ((c : Thread nD τ).loc cc0_scratch0)) :
    (((c : Thread nD τ).loc cc0_scratch0) ↦{fullShare} f : sProp 𝕄) = bigSep Finset.univ fun k : Fin 8 => sPts c k f := by
  rw [bigSep_congr fun k _ => sPts_eq c k f]
  exact Ring.pointsTo_blocks (ℓ := (c : Thread nD τ).loc cc0_scratch0) sSet disj_s cover_s f
omit [FloatOps F] in
/-- and its row blocks at any contents are the buffer whole at some. -/
theorem s_join (c : Dev nD) (f₀ : Buf (Elt F) ((c : Thread nD τ).loc cc0_scratch0)) :
    (bigSep Finset.univ fun k : Fin 8 => iprop(∃ f, sPts (F := F) c k f)) ⊢ (iprop(∃ f, ((c : Thread nD τ).loc cc0_scratch0) ↦{fullShare} f) : sProp 𝕄) := by
  rw [bigSep_congr fun k _ => congrArg BIBase.exists (funext fun f => sPts_eq c k f)]
  exact Ring.pointsTo_blocks_join_exists (ℓ := (c : Thread nD τ).loc cc0_scratch0) sSet disj_s cover_s f₀
omit [FloatOps F] in
/-- The result array whole is its row blocks. -/
theorem o_split (c : Dev nD) (f : Buf (Elt F) ((c : Thread nD τ).loc main_v1)) :
    (((c : Thread nD τ).loc main_v1) ↦{fullShare} f : sProp 𝕄) = bigSep Finset.univ fun k : Fin 8 => oPts c k f := by
  rw [bigSep_congr fun k _ => oPts_eq c k f]
  exact Ring.pointsTo_blocks (ℓ := (c : Thread nD τ).loc main_v1) oSet disj_o cover_o f

/-! ## What is stored and what lands -/

/-- The shard in its staging buffer. -/
def xPt (c : Dev nD) : sProp 𝕄 := ((c : Thread nD τ).loc cc0_stg1_0) ↦{fullShare} (X m c)

/-- The value stored is the shard's row block. -/
theorem stored_val (c : Dev nD) (k : Fin 8) : k0_pay2 (F := F) (xM.view.readAt (Elt F) (rR k).toLoadRect (X m c)) = blkV m c k := by
  unfold k0_pay2
  exact shapeCast_self _ _

omit [FloatOps F] in
/-- The row block written over a result array's block leaves the shard's rows there. -/
theorem landed_eq (c d : Dev nD) (k : Fin 8) (f : Buf (Elt F) ((oM k).view.loc (d : Thread nD τ))) :
    ((oM k).view.loc (d : Thread nD τ) ↦[(oM k).view.set]{fullShare} ((oM k).view.write (Elt F) f (blkV m c k) Finset.univ) : sProp 𝕄) = oPts d k (X m c) := by
  unfold oPts
  refine pointsTo_congr fun i hi => ?_
  obtain ⟨j, -, rfl⟩ := Finset.mem_map.mp hi
  rw [View.write_emb_of_mem _ _ (Finset.mem_univ j)]
  rfl

/-! ## The resources of one row block -/

/-- The send buffer's block holding the shard's rows. -/
def stored (c : Dev nD) (k : Fin 8) : sProp 𝕄 := iprop(∃ f, ⌜(sM k).view.read (Elt F) f = blkV m c k⌝ ∗ sPts c k f)
/-- The tokens of the two duties a copy pays in the exchange. -/
def toks (c : Dev nD) (k : Fin 8) : sProp 𝕄 := iprop(dutyTok ER (sendCell c k) 0 () ∗ dutyTok ER (recvCell (peer c) k) 0 ())
/-- The positions at the two cells. -/
def pos (c : Dev nD) (k : Fin 8) : sProp 𝕄 := iprop(atPos ER (sendCell c k) 0 ∅ 0 ∗ atPos ER (recvCell c k) 0 ∅ 0)
/-- What is owed when the copies before row block `n` are issued. -/
def Ow (b : Bool) (c : Dev nD) (n : ℕ) : sProp 𝕄 := iprop(∃ W, owes (c : Thread nD τ) (oweFrom b c n) W)
/-- The row block at the end: both cells closed at zero, the send buffer's block, the result's block holding its shard's rows. -/
def done (b : Bool) (c : Dev nD) (k : Fin 8) : sProp 𝕄 :=
  iprop(semVal (sendCell c k) 0 ∗ semVal (recvCell c k) 0 ∗ (∃ f, sPts c k f) ∗ oPts c k (X m (tgt b c)))

/-- Every cell's invariant under its name, and that every cell is at round 0. -/
def records (b : Bool) (K : Dev nD × CK → ℕ) : sProp 𝕄 :=
  iprop((bigSep Finset.univ fun ci : Dev nD × CK => cellInv ER (rd m b) (K ci) (kcell ci.1 ci.2))
    ∗ bigSep Finset.univ fun ci : Dev nD × CK => reached ER (kcell ci.1 ci.2) 0)

instance records_persistent (b : Bool) (K : Dev nD × CK → ℕ) : BI.Persistent (records m b K) := by unfold records; infer_instance

omit [FloatOps F] in
theorem pay_bar (b : Bool) (c : Dev nD) : pay m b c (some none) = barPay b c := rfl

section Steps
variable {m} (b : Bool) (K : Dev nD × CK → ℕ)

omit [FloatOps F] in
theorem rec_inv (c : Dev nD) (i : CK) : records m b K ⊢ cellInv ER (rd m b) (K (c, i)) (kcell c i) := by
  unfold records
  iintro ⟨H, -⟩
  iapply (show (bigSep Finset.univ fun ci : Dev nD × CK => (cellInv ER (rd m b) (K ci) (kcell ci.1 ci.2) : sProp 𝕄)) ⊢ cellInv ER (rd m b) (K (c, i)) (kcell c i)
    from bigSep_elim (Finset.mem_univ (c, i))); iexact H
omit [FloatOps F] in
theorem rec_reached (c : Dev nD) (i : CK) : records m b K ⊢ reached ER (kcell c i) 0 := by
  unfold records
  iintro ⟨-, H⟩
  iapply (show (bigSep Finset.univ fun ci : Dev nD × CK => (reached ER (kcell ci.1 ci.2) 0 : sProp 𝕄)) ⊢ reached ER (kcell c i) 0
    from bigSep_elim (Finset.mem_univ (c, i))); iexact H

/-- Load the shard's row block, load the send buffer's, store the first over the second. -/
theorem store_step {α : Type} {Q : α → sProp 𝕄} {kt : PUnit → Prog (TpuEff nD τ sig (Elt F) Λ₀ .tc) α}
    (c : Dev nD) (k : Fin 8) (py : Vec F S1x128x1024 .bf16 → FVec F S128x1024 .bf16) (hp : py = k0_pay2)
    {hl₁ : xM.view.LoadsAt (rR k).toLoadRect} {hl₂ : bM.view.LoadsAt (bR k).toLoadRect} {hx : (bM.access (bR k)).Stores Finset.univ}
    {hm : (Finset.univ : Finset (bR k).shape.Idx) = Finset.univ ∨ ∀ a, (bR k).stride a = 1} :
    iprop(xPt m c ∗ ∃ f, sPts c k f)
      ⊢ iprop(((xPt m c ∗ stored m c k) -∗ wp frame (wpE (defs₀ (F := F)) 𝒱₀ (c : Thread nD τ) none) Set.univ (kt ⟨⟩) Q)
        -∗ wp frame (wpE (defs₀ (F := F)) 𝒱₀ (c : Thread nD τ) none) Set.univ
          (.op (.load xM (rR k).toLoadRect hl₁) fun v => .op (.load bM (bR k).toLoadRect hl₂) fun _ =>
            .op (.store bM (bR k) (py v) Finset.univ hx hm) kt) Q) := by
  subst hp
  iintro ⟨Hx, ⟨%f, Hs⟩⟩ Hk
  unfold xPt sPts
  iapply (wp_load 𝒱₀ (c : Thread nD τ) none Set.univ (m := xM) (Finset.subset_univ _)) $$ Hx; iintro Hx
  rw [stored_val]
  iapply (wp_load_rect 𝒱₀ (c : Thread nD τ) none Set.univ (m := bM) (r := bR k) (subset_refl _)) $$ Hs; iintro Hs
  iapply (wp_store 𝒱₀ (c : Thread nD τ) none Set.univ (m := bM) (r := bR k) (Mk := Finset.univ) (S := (sM k).view.set) (f := f) (View.setOn_univ _ ▸ subset_refl _)) $$ Hs; iintro Hs
  iapply Hk
  isplitl [Hx]; · iexact Hx
  unfold stored sPts
  iexists _
  isplitr
  swap; · iexact Hs
  ipureintro; exact View.read_write_univ _ _

/-- The exchange's copy of a row block to the peer. -/
theorem send_step {α : Type} {Q : α → sProp 𝕄} {kt : PUnit → Prog (TpuEff nD τ sig (Elt F) Λ₀ .tc) α}
    (c n : Dev nD) (hn : n = peer c) (k : Fin 8)
    {hsc : (oM k : Memref sig (Dev.tc n : Thread nD τ).2.kind .hbm S128x1024 .bf16).view.ref.isScScratch = false}
    {hsrc : (sM k).view.WordExact} {hdst : (oM k).view.WordExact}
    {hsem : DmaTarget.Typed .vmem (.dma (recvS k)) (.remote (Dev.tc n : Thread nD τ) (oM k) (.dma (sendS k)) hsc)} :
    iprop(records m true K ∗ stored m c k ∗ (∃ f, oPts (peer c) k f) ∗ toks c k ∗ Ow true c k.val)
      ⊢ iprop(((cred (tallyAt (sendCell c k) () N) ∗ Ow true c (k.val + 1)) -∗ wp frame (wpE (defs₀ (F := F)) 𝒱₀ (c : Thread nD τ) none) Set.univ (kt ⟨⟩) Q)
        -∗ wp frame (wpE (defs₀ (F := F)) 𝒱₀ (c : Thread nD τ) none) Set.univ
          (.op (.enqueueDma (sM k) (.remote (Dev.tc n : Thread nD τ) (oM k) (.dma (sendS k)) hsc) (.dma (recvS k)) hsrc hdst hsem) kt) Q) := by
  subst hn
  unfold stored toks Ow
  iintro ⟨#HR, ⟨%f, %hf, Hs⟩, ⟨%g, Hd⟩, ⟨Ht₁, Ht₂⟩, ⟨%W, HO⟩⟩ Hk
  unfold sPts oPts
  iapply (Rounds.wp_send_pointsTo 𝒱₀ ER (rd m true) (c : Thread nD τ) none (κ₁ := K (c, some (false, k))) (κ₂ := K (peer c, some (true, k)))
    (r₁ := 0) (r₂ := 0) (d₁ := ()) (d₂ := ()) (fd := g)
    (by rw [duties_at m true c (some (false, k))]; exact Finset.mem_singleton_self _)
    (by rw [duties_at m true (peer c) (some (true, k))]; exact Finset.mem_singleton_self _)
    () () N (amount_o k _) (amount_at m true c (some (false, k)) ()) (amount_at m true (peer c) (some (true, k)) ())
    (oweFrom true c (k.val + 1)) (oweFrom_step c k) (W := W)
    (by rw [payload_at m true c (some (false, k))]; show _ ⊢ sendPay m true c k; unfold sendPay; rw [if_pos rfl]; unfold sPts; iintro H; iexists f; iexact H)
    (by rw [payload_at m true (peer c) (some (true, k)), hf, landed_eq m c (peer c) k]; show _ ⊢ recvPay m (peer c) k; unfold recvPay; rw [peer_peer]))
    $$ [Hs Hd HO Ht₁ Ht₂]
  · isplitr; · iapply (rec_inv true K c (some (false, k))); iexact HR
    isplitr; · iapply (rec_inv true K (peer c) (some (true, k))); iexact HR
    isplitl [Hs]; · iexact Hs
    isplitl [Hd]; · iexact Hd
    isplitl [HO]; · iexact HO
    isplitl [Ht₁]; · iexact Ht₁
    isplitr; · iapply (rec_reached true K c (some (false, k))); iexact HR
    isplitl [Ht₂]; · iexact Ht₂
    iapply (rec_reached true K (peer c) (some (true, k))); iexact HR
  iintro ⟨Hc, HO⟩
  iapply Hk
  isplitl [Hc]; · iexact Hc
  iexists W; iexact HO

/-- The identity's copy of a row block into the device's own result. -/
theorem copy_step {α : Type} {Q : α → sProp 𝕄} {kt : PUnit → Prog (TpuEff nD τ sig (Elt F) Λ₀ .tc) α}
    (c : Dev nD) (k : Fin 8) {hsrc : (sM k).view.WordExact} {hdst : (oM k).view.WordExact}
    {hsem : DmaTarget.Typed (nD := nD) (p := (c : Thread nD τ).2) .vmem (.dma (sendS k)) (.here (oM k))} :
    iprop(records m false K ∗ stored m c k ∗ (∃ f, oPts c k f) ∗ toks c k)
      ⊢ iprop((cred (tallyAt (sendCell c k) () N) -∗ wp frame (wpE (defs₀ (F := F)) 𝒱₀ (c : Thread nD τ) none) Set.univ (kt ⟨⟩) Q)
        -∗ wp frame (wpE (defs₀ (F := F)) 𝒱₀ (c : Thread nD τ) none) Set.univ
          (.op (.enqueueDma (sM k) (.here (oM k)) (.dma (sendS k)) hsrc hdst hsem) kt) Q) := by
  unfold stored toks
  iintro ⟨#HR, ⟨%f, %hf, Hs⟩, ⟨%g, Hd⟩, ⟨Ht, -⟩⟩ Hk
  unfold sPts oPts
  iapply (Rounds.wp_copy_pointsTo 𝒱₀ ER (rd m false) (c : Thread nD τ) none (κ := K (c, some (false, k))) (r := 0) (d := ()) (fd := g)
    (by rw [duties_at m false c (some (false, k))]; exact Finset.mem_singleton_self _)
    () N (amount_o k _) (amount_at m false c (some (false, k)) ())
    (by
      rw [payload_at m false c (some (false, k)), hf, landed_eq m c c k]; show _ ⊢ sendPay m false c k
      unfold sendPay; rw [if_neg Bool.false_ne_true]; unfold sPts
      iintro ⟨Ho, Hs⟩; isplitl [Ho]; · iexact Ho
      iexists f; iexact Hs))
    $$ [Hs Hd Ht]
  · isplitr; · iapply (rec_inv false K c (some (false, k))); iexact HR
    isplitl [Hs]; · iexact Hs
    isplitl [Hd]; · iexact Hd
    isplitl [Ht]; · iexact Ht
    iapply (rec_reached false K c (some (false, k))); iexact HR
  iexact Hk

/-- The exchange's two waits for a row block, on its send cell and on its receive cell, and the closing of both cells. -/
theorem waits_step {α : Type} {Q : α → sProp 𝕄} {kt : PUnit → Prog (TpuEff nD τ sig (Elt F) Λ₀ .tc) α}
    (c : Dev nD) (k : Fin 8) {h₁ : (oM k).view.WordExact} {h₂ : (sM k).view.WordExact} {h₃ : (sM k).view.WordExact} {h₄ : (oM k).view.WordExact} :
    iprop(records m true K ∗ cred (tallyAt (sendCell c k) () N) ∗ cred (tallyAt (recvCell c k) () N) ∗ pos c k ∗ Ow true c 8)
      ⊢ iprop(((done m true c k ∗ Ow true c 8) -∗ wp frame (wpE (defs₀ (F := F)) 𝒱₀ (c : Thread nD τ) none) Set.univ (kt ⟨⟩) Q)
        -∗ wp frame (wpE (defs₀ (F := F)) 𝒱₀ (c : Thread nD τ) none) Set.univ
          (.op (.waitDma2 (sendS k) (oM k) (sM k) h₁ h₂) fun _ => .op (.waitDma2 (recvS k) (sM k) (oM k) h₃ h₄) kt) Q) := by
  unfold pos Ow
  rw [oweFrom_end]
  iintro ⟨#HR, Hc₁, Hc₂, ⟨Ha₁, Ha₂⟩, ⟨%W, HO⟩⟩ Hk
  iapply (Rounds.wp_wait_rest_token 𝒱₀ ER (rd m true) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add]; exact (expect_at m true c (some (false, k)) rfl).symm)) $$ [Hc₁ HO Ha₁]
  · isplitr; · iapply (rec_inv true K c (some (false, k))); iexact HR
    isplitl [Hc₁]; · iexact Hc₁
    isplitl [HO]; · iexact HO
    isplitr; · rw [MayWait_zero]; iempintro
    iexact Ha₁
  iintro ⟨HO, Ha₁, -, Hp₁⟩
  ihave Hs := (Entails.of_eq (rest_at m true c (some (false, k)) rfl)) $$ Hp₁
  iapply (Rounds.wp_wait_rest_token 𝒱₀ ER (rd m true) (c : Thread nD τ) none (κ := K (c, some (true, k)))
      (wpE_waitDma2_eq 𝒱₀ (c : Thread nD τ) none Set.univ) (Set.mem_univ _) () (O := 0) (W := insert (SemLoc.dma (sendS k), ()) W) (R := 0) (m := 0) (T := ∅)
      (by rw [Nat.zero_add]; exact (expect_at m true c (some (true, k)) rfl).symm)) $$ [Hc₂ HO Ha₂]
  · isplitr; · iapply (rec_inv true K c (some (true, k))); iexact HR
    isplitl [Hc₂]; · iexact Hc₂
    isplitl [HO]; · iexact HO
    isplitr; · rw [MayWait_zero]; iempintro
    iexact Ha₂
  iintro ⟨HO, Ha₂, -, Hp₂⟩
  ihave Ho := (Entails.of_eq (rest_at m true c (some (true, k)) rfl)) $$ Hp₂
  imod (Rounds.cell_close ER (rd m true) (Set.mem_univ (K (c, some (false, k)))) (fun h => h) (R := 0 + 1) (duties_later m true (sendCell c k))) $$ [Ha₁] with Hz₁
  · isplitr; · iapply (rec_inv true K c (some (false, k))); iexact HR
    iexact Ha₁
  imod (Rounds.cell_close ER (rd m true) (Set.mem_univ (K (c, some (true, k)))) (fun h => h) (R := 0 + 1) (duties_later m true (recvCell c k))) $$ [Ha₂] with Hz₂
  · isplitr; · iapply (rec_inv true K c (some (true, k))); iexact HR
    iexact Ha₂
  iapply Hk
  unfold done
  isplitr [HO]
  · isplitl [Hz₁]; · iexact Hz₁
    isplitl [Hz₂]; · iexact Hz₂
    isplitl [Hs]; · iapply (show pay m true c (some (some (false, k))) ⊢ iprop(∃ f, sPts c k f) from Entails.of_eq (show sendPay m true c k = _ from if_pos rfl)); iexact Hs
    iapply (show pay m true c (some (some (true, k))) ⊢ oPts c k (X m (tgt true c)) from Entails.refl _); iexact Ho
  · iexists _; iexact HO

/-- The identity's wait for a row block, on its send cell, and the closing of both cells. -/
theorem wait_step {α : Type} {Q : α → sProp 𝕄} {kt : PUnit → Prog (TpuEff nD τ sig (Elt F) Λ₀ .tc) α}
    (c : Dev nD) (k : Fin 8) {h₁ : (sM k).view.WordExact} {h₂ : (oM k).view.WordExact} :
    iprop(records m false K ∗ cred (tallyAt (sendCell c k) () N) ∗ pos c k ∗ Ow false c 8)
      ⊢ iprop(((done m false c k ∗ Ow false c 8) -∗ wp frame (wpE (defs₀ (F := F)) 𝒱₀ (c : Thread nD τ) none) Set.univ (kt ⟨⟩) Q)
        -∗ wp frame (wpE (defs₀ (F := F)) 𝒱₀ (c : Thread nD τ) none) Set.univ
          (.op (.waitDma2 (sendS k) (sM k) (oM k) h₁ h₂) kt) Q) := by
  unfold pos Ow
  rw [oweFrom_end]
  iintro ⟨#HR, Hc₁, ⟨Ha₁, Ha₂⟩, ⟨%W, HO⟩⟩ Hk
  iapply (Rounds.wp_wait_rest_token 𝒱₀ ER (rd m false) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add]; exact (expect_at m false c (some (false, k)) rfl).symm)) $$ [Hc₁ HO Ha₁]
  · isplitr; · iapply (rec_inv false K c (some (false, k))); iexact HR
    isplitl [Hc₁]; · iexact Hc₁
    isplitl [HO]; · iexact HO
    isplitr; · rw [MayWait_zero]; iempintro
    iexact Ha₁
  iintro ⟨HO, Ha₁, -, Hp₁⟩
  ihave Hs := (Entails.of_eq (rest_at m false c (some (false, k)) rfl)) $$ Hp₁
  imod (Rounds.cell_close ER (rd m false) (Set.mem_univ (K (c, some (false, k)))) (fun h => h) (R := 0 + 1) (duties_later m false (sendCell c k))) $$ [Ha₁] with Hz₁
  · isplitr; · iapply (rec_inv false K c (some (false, k))); iexact HR
    iexact Ha₁
  imod (Rounds.cell_close ER (rd m false) (Set.mem_univ (K (c, some (true, k)))) (fun h => h) (R := 0) (duties_recv_stay m k (recvCell c k) (which_csem (some (true, k))))) $$ [Ha₂] with Hz₂
  · isplitr; · iapply (rec_inv false K c (some (true, k))); iexact HR
    iexact Ha₂
  iapply Hk
  ihave Hs' := (show pay m false c (some (some (false, k))) ⊢ iprop(oPts c k (X m c) ∗ ∃ f, sPts c k f) from Entails.of_eq (show sendPay m false c k = _ from if_neg Bool.false_ne_true)) $$ Hs
  icases Hs' with ⟨Ho, Hs⟩
  unfold done
  isplitr [HO]
  · isplitl [Hz₁]; · iexact Hz₁
    isplitl [Hz₂]; · iexact Hz₂
    isplitl [Hs]; · iexact Hs
    iexact Ho
  · iexists _; iexact HO

/-- The signal on the peer's barrier cell, handing the peer what its barrier cell hands it. -/
theorem signal_step {α : Type} {Q : α → sProp 𝕄} {kt : PUnit → Prog (TpuEff nD τ sig (Elt F) Λ₀ .tc) α}
    (c n : Dev nD) (hn : n = peer c) (a : ℕ) (ha : 1 = a) (W : Waits sig Unit) :
    iprop(records m b K ∗ owes (c : Thread nD τ) (O₀ b c) W ∗ dutyTok ER (barCell (peer c)) 0 () ∗ barPay b (peer c))
      ⊢ iprop((Ow b c 0 -∗ wp frame (wpE (defs₀ (F := F)) 𝒱₀ (c : Thread nD τ) none) Set.univ (kt ⟨⟩) Q)
        -∗ wp frame (wpE (defs₀ (F := F)) 𝒱₀ (c : Thread nD τ) none) Set.univ (.op (.semSignal (n : Thread nD τ) barS a) kt) Q) := by
  subst hn ha
  iintro ⟨#HR, HO, Ht, Hp⟩ Hk
  iapply (Rounds.wp_signal 𝒱₀ ER (rd m b) (c : Thread nD τ) none (dst := (peer c : Thread nD τ)) (κ := K (peer c, none)) (r := 0)
      (d := ()) (by rw [duties_at m b (peer c) none]; exact Finset.mem_singleton_self _) (amount_at m b (peer c) none ()) () (oweFrom b c 0) rfl)
    $$ [HO Ht Hp]
  · isplitr; · iapply (rec_inv b K (peer c) none); iexact HR
    isplitl [HO]; · iexact HO
    isplitl [Ht]; · iexact Ht
    isplitl [Hp]; · rw [payload_at m b (peer c) none, pay_bar]; iexact Hp
    iapply (rec_reached b K (peer c) none); iexact HR
  iintro HO
  iapply Hk
  unfold Ow; iexists W; iexact HO

/-- The wait for the peer's signal, and the closing of the barrier cell. -/
theorem barrier_step {α : Type} {Q : α → sProp 𝕄} {kt : PUnit → Prog (TpuEff nD τ sig (Elt F) Λ₀ .tc) α}
    (c : Dev nD) (a : ℕ) (ha : 1 = a) :
    iprop(records m b K ∗ cred (tallyAt (barCell c) () 1) ∗ atPos ER (barCell c) 0 ∅ 0 ∗ levAts L lv ∗ Ow b c 0)
      ⊢ iprop(((Ow b c 0 ∗ semVal (barCell c) 0 ∗ barPay b c) -∗ wp frame (wpE (defs₀ (F := F)) 𝒱₀ (c : Thread nD τ) none) Set.univ (kt ⟨⟩) Q)
        -∗ wp frame (wpE (defs₀ (F := F)) 𝒱₀ (c : Thread nD τ) none) Set.univ (.op (.semWait barS a) kt) Q) := by
  subst ha
  unfold Ow
  iintro ⟨#HR, Hc, Ha, Hlev, ⟨%W, HO⟩⟩ Hk
  iapply (Rounds.wp_wait_rest_token 𝒱₀ ER (rd m b) (c : Thread nD τ) none (κ := K (c, none))
      (wpE_semWait_eq 𝒱₀ (c : Thread nD τ) none Set.univ) (Set.mem_univ _) () (O := oweFrom b c 0) (W := W) (R := 0) (m := 0) (T := ∅)
      (by rw [Nat.zero_add]; exact (expect_at m b c none rfl).symm)) $$ [Hc HO Ha Hlev]
  · isplitr; · iapply (rec_inv b K c none); iexact HR
    isplitl [Hc]; · iexact Hc
    isplitl [HO]; · iexact HO
    isplitl [Hlev]; · iapply (mayWait_bar b c); iexact Hlev
    iexact Ha
  iintro ⟨HO, Ha, -, Hp⟩
  ihave Hp' := (Entails.of_eq ((rest_at m b c none rfl).trans (pay_bar m b c))) $$ Hp
  imod (Rounds.cell_close ER (rd m b) (Set.mem_univ (K (c, none))) (fun h => h) (R := 0 + 1) (duties_later m b (barCell c))) $$ [Ha] with Hz
  · isplitr; · iapply (rec_inv b K c none); iexact HR
    iexact Ha
  iapply Hk
  isplitl [HO]; · iexists _; iexact HO
  isplitl [Hz]; · iexact Hz
  iexact Hp'

end Steps

end Cert.Perm

end
-- ==== Proof.Body.lean ====
/-
The body of `k` at a symbolic device, once for each permutation, by the steps of `Steps.lean`; and the pipeline's body
obligation from it.
-/
module

public import proofs.«01_k».proof.Proof.Steps

@[expose] public section

noncomputable section

namespace Cert.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The permutation table and what the body computes from it -/

/-- The table: `[1, 0]` in the exchange, `[0, 1]` in the identity. -/
def piC (b : Bool) : (cc0_stg0_0 : Ref sig .tc).ty.Contents (Elt F) := fun i => BitVec.ofNat 32 (if b then 1 - (i 0).val else (i 0).val)

/-- The precondition on the launch memory: every device's table is that. -/
def PreOK (b : Bool) : Prop := ∀ c : Dev nD, m ((c : Thread nD τ).loc main_arg1) = piC b

/-- The word of the table a device reads: the z coordinate its shard goes to. -/
def pw (b : Bool) (c : Dev nD) : BitVec 32 := BitVec.ofNat 32 ((tgt b c).val % 2)

abbrev r1 (c : Dev nD) : Rect S2 := Rect.unit (s := S2) (k0_off1 c) S1.size (k0_off1_inb c)

omit [FloatOps F] in
theorem word_eq (b : Bool) (c : Dev nD) :
    (piM.access (r1 c)).read (Elt F) (piC b) (Shape.Idx.first (numel1_S1.symm ▸ Nat.one_pos)) = pw b c := by
  show BitVec.ofNat 32 (if b then 1 - (k0_off1 c 0 + 1 * 0) else k0_off1 c 0 + 1 * 0) = pw b c
  cases b <;> revert c <;> decide

theorem chk (b : Bool) (c : Dev nD) : k0_chk1 c (pw b c) := by cases b <;> revert c <;> decide
theorem dev1_eq (c : Dev nD) : (⟨k0_dev1 c, k0_dev1_lt c⟩ : Dev nD) = peer c := by revert c; decide

/-- Whether the device's shard moves, as the body computes it. -/
theorem moves (b : Bool) (c : Dev nD) :
    Scalar.cmpi .ne (pw b c) (Scalar.remsi (Scalar.divsi (Dev.word c) 1#32) 2#32) = if b then 1#1 else 0#1 := by cases b <;> revert c <;> decide

section Conds
variable (c : Dev nD)
theorem cond1 : k0_cond1 c (pw true c) = 1#1 := by revert c; decide
theorem cond3 : k0_cond3 c (pw true c) = 1#1 := by revert c; decide
theorem cond5 : k0_cond5 c (pw true c) = 1#1 := by revert c; decide
theorem cond7 : k0_cond7 c (pw true c) = 1#1 := by revert c; decide
theorem cond9 : k0_cond9 c (pw true c) = 1#1 := by revert c; decide
theorem cond11 : k0_cond11 c (pw true c) = 1#1 := by revert c; decide
theorem cond13 : k0_cond13 c (pw true c) = 1#1 := by revert c; decide
theorem cond15 : k0_cond15 c (pw true c) = 1#1 := by revert c; decide
theorem ncond1 : ¬ k0_cond1 c (pw false c) = 1#1 := by revert c; decide
theorem ncond3 : ¬ k0_cond3 c (pw false c) = 1#1 := by revert c; decide
theorem ncond5 : ¬ k0_cond5 c (pw false c) = 1#1 := by revert c; decide
theorem ncond7 : ¬ k0_cond7 c (pw false c) = 1#1 := by revert c; decide
theorem ncond9 : ¬ k0_cond9 c (pw false c) = 1#1 := by revert c; decide
theorem ncond11 : ¬ k0_cond11 c (pw false c) = 1#1 := by revert c; decide
theorem ncond13 : ¬ k0_cond13 c (pw false c) = 1#1 := by revert c; decide
theorem ncond15 : ¬ k0_cond15 c (pw false c) = 1#1 := by revert c; decide
theorem dev2_eq (h) : (⟨k0_dev2 c (pw true c), h⟩ : Dev nD) = peer c := Fin.ext (by revert c; decide)
theorem dev3_eq (h) : (⟨k0_dev3 c (pw true c), h⟩ : Dev nD) = peer c := Fin.ext (by revert c; decide)
theorem dev4_eq (h) : (⟨k0_dev4 c (pw true c), h⟩ : Dev nD) = peer c := Fin.ext (by revert c; decide)
theorem dev5_eq (h) : (⟨k0_dev5 c (pw true c), h⟩ : Dev nD) = peer c := Fin.ext (by revert c; decide)
theorem dev6_eq (h) : (⟨k0_dev6 c (pw true c), h⟩ : Dev nD) = peer c := Fin.ext (by revert c; decide)
theorem dev7_eq (h) : (⟨k0_dev7 c (pw true c), h⟩ : Dev nD) = peer c := Fin.ext (by revert c; decide)
theorem dev8_eq (h) : (⟨k0_dev8 c (pw true c), h⟩ : Dev nD) = peer c := Fin.ext (by revert c; decide)
theorem dev9_eq (h) : (⟨k0_dev9 c (pw true c), h⟩ : Dev nD) = peer c := Fin.ext (by revert c; decide)
end Conds

theorem bit_moves : (if (true : Bool) = true then 1#1 else 0#1 : BitVec 1) = 1#1 := rfl
theorem bit_stays : (if (false : Bool) = true then 1#1 else 0#1 : BitVec 1) = 0#1 := rfl
theorem t_ext : Scalar.cmpi .ne (Scalar.extui 1#1 : BitVec 32) 0#32 = 1#1 := by decide
theorem t_xor : ¬ Scalar.cmpi .ne (Scalar.extui (Scalar.xori 1#1 1#1) : BitVec 32) 0#32 = 1#1 := by decide
theorem f_ext : ¬ Scalar.cmpi .ne (Scalar.extui 0#1 : BitVec 32) 0#32 = 1#1 := by decide
theorem f_xor : Scalar.cmpi .ne (Scalar.extui (Scalar.xori 0#1 1#1) : BitVec 32) 0#32 = 1#1 := by decide

/-! ## The pipeline's proof data -/

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The ghost state a device starts from: the records, its barrier position, the token of its signal, and per row block its
    positions and its copy's tokens. -/
def ghost (b : Bool) (K : Dev nD × CK → ℕ) (c : Dev nD) : sProp 𝕄 :=
  iprop(records m b K ∗ atPos ER (barCell c) 0 ∅ 0 ∗ dutyTok ER (barCell (peer c)) 0 ()
    ∗ (bigSep Finset.univ fun k : Fin 8 => pos (F := F) c k) ∗ bigSep Finset.univ fun k : Fin 8 => toks (F := F) c k)

/-- The credit a device waits with: its barrier cell's unit and, in the exchange, its receive cells' copies. -/
def creds (b : Bool) (c : Dev nD) : sProp 𝕄 :=
  iprop(cred (tallyAt (barCell c) () 1) ∗ if b then bigSep Finset.univ fun k : Fin 8 => cred (tallyAt (recvCell c k) () N) else emp)

/-- What a device's body starts from, with its result array at the contents of the launch. -/
def start (b : Bool) (c : Dev nD) : sProp 𝕄 :=
  iprop((∃ K, ghost m b K c) ∗ creds b c ∗ levAts L lv ∗ ((c : Thread nD τ).loc main_v1) ↦{fullShare} m ((c : Thread nD τ).loc main_v1))

def Φ₀ (b : Bool) (c : Dev nD) : sProp 𝕄 := iprop(start m b c ∗ ∃ f, ((c : Thread nD τ).loc cc0_scratch0) ↦{fullShare} f)

/-- After the body: every cell at zero, the send buffer, the result array holding the shard of the device that sends here. -/
def Φ₁ (b : Bool) (c : Dev nD) : sProp 𝕄 :=
  iprop((∃ f, ((c : Thread nD τ).loc cc0_scratch0) ↦{fullShare} f)
    ∗ (bigSep Finset.univ fun k : Fin 8 => iprop(semVal (sendCell c k) 0 ∗ semVal (recvCell c k) 0)) ∗ semVal (barCell c) 0
    ∗ ((c : Thread nD τ).loc main_v1) ↦{fullShare} X m (tgt b c))

/-- The two operands as staged. -/
def pstg (c : Dev nD) : (cc0_stg0_0 : Ref sig .tc).ty.Contents (Elt F) :=
  (win0_0.blk (0 : Fin 1)).view.read (Elt F) ((s₀ m ρ).mem ((c : Thread nD τ).loc main_arg1))
def xstg (c : Dev nD) : (cc0_stg1_0 : Ref sig .tc).ty.Contents (Elt F) :=
  (win0_1.blk (0 : Fin 1)).view.read (Elt F) ((s₀ m ρ).mem ((c : Thread nD τ).loc main_arg0))

def dats (b : Bool) (_ : Fin 1) (c : Dev nD) : Dat τ (Elt F) Unit ℕ UU ℕ cfg0 c where
  A w := (s₀ m ρ).mem ((cfg0.win w).arr.view.loc (c : Thread nD τ))
  after w _ := match w with
    | ⟨0, _⟩ => pstg m ρ c
    | ⟨1, _⟩ => xstg m ρ c
  Φ t := match t with
    | ⟨0, _⟩ => Φ₀ m b c
    | ⟨_ + 1, _⟩ => Φ₁ m b c
  q _ := fullShare
  owed t := match t with
    | ⟨0, _⟩ => O₀ b c
    | ⟨_ + 1, _⟩ => 0

omit [FloatOps F] in
theorem pstg_eq {b : Bool} (h : PreOK m b) (c : Dev nD) : pstg m ρ c = piC b := by
  rw [← h c]; unfold pstg
  funext i
  show m _ _ = m _ _
  refine congrArg _ (funext fun a => Fin.ext ?_)
  fin_cases a
  show 0 * 2 + 1 * (i 0).val = (i 0).val
  omega
omit [FloatOps F] in
theorem xstg_eq (c : Dev nD) : xstg m ρ c = X m c := by
  unfold xstg X
  funext i
  show m _ _ = m _ _
  refine congrArg _ (funext fun a => Fin.ext ?_)
  fin_cases a
  · show 0 * 1 + 1 * (i 0).val = (i 0).val; omega
  · show 0 * 1024 + 1 * (i 1).val = (i 1).val; omega
  · show 0 * 1024 + 1 * (i 2).val = (i 2).val; omega
/-! ## One row block, and the head of the body -/

section Chunk
variable {m}

/-- What a row block's copy starts from: the send buffer's rows, the rows of the destination, and the copy's tokens. -/
def mine (b : Bool) (c : Dev nD) (k : Fin 8) : sProp 𝕄 :=
  iprop((∃ f, sPts c k f) ∗ (∃ f, oPts (tgt b c) k f) ∗ toks c k)

/-- A row block in the exchange: stored into the send buffer and sent to the peer. -/
theorem chunk_x {α : Type} {Q : α → sProp 𝕄} {kt : PUnit → Prog (TpuEff nD τ sig (Elt F) Λ₀ .tc) α}
    (K : Dev nD × CK → ℕ) (c n : Dev nD) (hn : n = peer c) (k : Fin 8) (py : Vec F S1x128x1024 .bf16 → FVec F S128x1024 .bf16) (hp : py = k0_pay2)
    {hl₁ : xM.view.LoadsAt (rR k).toLoadRect} {hl₂ : bM.view.LoadsAt (bR k).toLoadRect} {hx : (bM.access (bR k)).Stores Finset.univ}
    {hm : (Finset.univ : Finset (bR k).shape.Idx) = Finset.univ ∨ ∀ a, (bR k).stride a = 1}
    {hsc : (oM k : Memref sig (Dev.tc n : Thread nD τ).2.kind .hbm S128x1024 .bf16).view.ref.isScScratch = false}
    {hsrc : (sM k).view.WordExact} {hdst : (oM k).view.WordExact}
    {hsem : DmaTarget.Typed .vmem (.dma (recvS k)) (.remote (Dev.tc n : Thread nD τ) (oM k) (.dma (sendS k)) hsc)} :
    iprop(records m true K ∗ xPt m c ∗ mine true c k ∗ Ow true c k.val)
      ⊢ iprop(((xPt m c ∗ cred (tallyAt (sendCell c k) () N) ∗ Ow true c (k.val + 1)) -∗ wp frame (wpE (defs₀ (F := F)) 𝒱₀ (c : Thread nD τ) none) Set.univ (kt ⟨⟩) Q)
        -∗ wp frame (wpE (defs₀ (F := F)) 𝒱₀ (c : Thread nD τ) none) Set.univ
          (.op (.load xM (rR k).toLoadRect hl₁) fun v => .op (.load bM (bR k).toLoadRect hl₂) fun _ =>
            .op (.store bM (bR k) (py v) Finset.univ hx hm) fun _ =>
            .op (.enqueueDma (sM k) (.remote (Dev.tc n : Thread nD τ) (oM k) (.dma (sendS k)) hsc) (.dma (recvS k)) hsrc hdst hsem) kt) Q) := by
  unfold mine
  iintro ⟨#HR, Hx, ⟨Hs, Hd, Ht⟩, HO⟩ Hk
  iapply (store_step c k py hp) $$ [Hx Hs]
  · isplitl [Hx]; · iexact Hx
    iexact Hs
  iintro ⟨Hx, Hs⟩
  iapply (send_step K c n hn k) $$ [Hs Hd Ht HO]
  · isplitr; · iexact HR
    isplitl [Hs]; · iexact Hs
    isplitl [Hd]; · iapply (show iprop(∃ f, oPts (tgt true c) k f) ⊢ iprop(∃ f, oPts (F := F) (peer c) k f) from Entails.refl _); iexact Hd
    isplitl [Ht]; · iexact Ht
    iexact HO
  iintro ⟨Hc, HO⟩
  iapply Hk
  isplitl [Hx]; · iexact Hx
  isplitl [Hc]; · iexact Hc
  iexact HO

/-- A row block in the identity: stored into the send buffer and copied into the device's own result. -/
theorem chunk_s {α : Type} {Q : α → sProp 𝕄} {kt : PUnit → Prog (TpuEff nD τ sig (Elt F) Λ₀ .tc) α}
    (K : Dev nD × CK → ℕ) (c : Dev nD) (k : Fin 8) (py : Vec F S1x128x1024 .bf16 → FVec F S128x1024 .bf16) (hp : py = k0_pay2)
    {hl₁ : xM.view.LoadsAt (rR k).toLoadRect} {hl₂ : bM.view.LoadsAt (bR k).toLoadRect} {hx : (bM.access (bR k)).Stores Finset.univ}
    {hm : (Finset.univ : Finset (bR k).shape.Idx) = Finset.univ ∨ ∀ a, (bR k).stride a = 1}
    {hsrc : (sM k).view.WordExact} {hdst : (oM k).view.WordExact}
    {hsem : DmaTarget.Typed (nD := nD) (p := (c : Thread nD τ).2) .vmem (.dma (sendS k)) (.here (oM k))} :
    iprop(records m false K ∗ xPt m c ∗ mine false c k)
      ⊢ iprop(((xPt m c ∗ cred (tallyAt (sendCell c k) () N)) -∗ wp frame (wpE (defs₀ (F := F)) 𝒱₀ (c : Thread nD τ) none) Set.univ (kt ⟨⟩) Q)
        -∗ wp frame (wpE (defs₀ (F := F)) 𝒱₀ (c : Thread nD τ) none) Set.univ
          (.op (.load xM (rR k).toLoadRect hl₁) fun v => .op (.load bM (bR k).toLoadRect hl₂) fun _ =>
            .op (.store bM (bR k) (py v) Finset.univ hx hm) fun _ =>
            .op (.enqueueDma (sM k) (.here (oM k)) (.dma (sendS k)) hsrc hdst hsem) kt) Q) := by
  unfold mine
  iintro ⟨#HR, Hx, ⟨Hs, Hd, Ht⟩⟩ Hk
  iapply (store_step c k py hp) $$ [Hx Hs]
  · isplitl [Hx]; · iexact Hx
    iexact Hs
  iintro ⟨Hx, Hs⟩
  iapply (copy_step K c k) $$ [Hs Hd Ht]
  · isplitr; · iexact HR
    isplitl [Hs]; · iexact Hs
    isplitl [Hd]; · iapply (show iprop(∃ f, oPts (tgt false c) k f) ⊢ iprop(∃ f, oPts (F := F) c k f) from Entails.refl _); iexact Hd
    iexact Ht
  iintro Hc
  iapply Hk
  isplitl [Hx]; · iexact Hx
  iexact Hc

end Chunk

/-- The destination's row blocks as the body has them after the barrier: handed over by the peer in the exchange, the
    device's own all along in the identity. -/
def dests (b : Bool) (c : Dev nD) : sProp 𝕄 := bigSep Finset.univ fun k : Fin 8 => iprop(∃ f, oPts (F := F) (tgt b c) k f)

/-- A device's own result array is what it hands over in the exchange, and what it keeps in the identity. -/
theorem hand_over (b : Bool) (c : Dev nD) (f : Buf (Elt F) ((c : Thread nD τ).loc main_v1)) :
    (((c : Thread nD τ).loc main_v1) ↦{fullShare} f) ⊢ iprop(barPay (F := F) b (peer c) ∗ if b then emp else dests (F := F) b c) := by
  have h : bigSep Finset.univ (fun k : Fin 8 => oPts (F := F) c k f) ⊢ bigSep Finset.univ fun k : Fin 8 => iprop(∃ f, oPts (F := F) c k f) :=
    bigSep_mono fun k _ => exists_intro (Φ := fun f => oPts (F := F) c k f) f
  rw [o_split]
  cases b
  · show _ ⊢ iprop(emp ∗ bigSep Finset.univ fun k : Fin 8 => iprop(∃ f, oPts (F := F) c k f))
    iintro H
    isplitr; · iempintro
    iapply h; iexact H
  · show _ ⊢ iprop((bigSep Finset.univ fun k : Fin 8 => iprop(∃ f, oPts (F := F) (peer (peer c)) k f)) ∗ emp)
    rw [peer_peer]
    iintro H
    isplitl; · iapply h; iexact H
    iempintro

/-- What the peer hands over, with what is kept, is the destination. -/
theorem handed (b : Bool) (c : Dev nD) : iprop(barPay (F := F) b c ∗ if b then emp else dests (F := F) b c) ⊢ dests (F := F) b c := by
  cases b
  · show iprop(emp ∗ dests false c) ⊢ _
    iintro ⟨-, H⟩; iexact H
  · show iprop(dests true c ∗ emp) ⊢ _
    iintro ⟨H, -⟩; iexact H

/-- The staged table. -/
def piPt (b : Bool) (c : Dev nD) : sProp 𝕄 := ((c : Thread nD τ).loc cc0_stg0_0) ↦{fullShare} piC (F := F) b

/-- What the head of the body starts from. -/
def headPre (b : Bool) (K : Dev nD × CK → ℕ) (c : Dev nD) : sProp 𝕄 :=
  iprop(records m b K ∗ (∃ W, owes (c : Thread nD τ) (O₀ b c) W) ∗ dutyTok ER (barCell (peer c)) 0 ()
    ∗ (((c : Thread nD τ).loc main_v1) ↦{fullShare} m ((c : Thread nD τ).loc main_v1)) ∗ piPt b c ∗ xPt m c
    ∗ (∃ f, sPts c 0 f) ∗ cred (tallyAt (barCell c) () 1) ∗ atPos ER (barCell c) 0 ∅ 0 ∗ levAts L lv ∗ toks c 0)

/-- What it leaves: the barrier passed, the first row block on its way, the destination's other row blocks in hand. -/
def headPost (b : Bool) (c : Dev nD) : sProp 𝕄 :=
  iprop(piPt b c ∗ xPt m c ∗ Ow b c 1 ∗ semVal (barCell c) 0 ∗ cred (tallyAt (sendCell c 0) () N)
    ∗ bigSep (Finset.univ.erase 0) fun k : Fin 8 => iprop(∃ f, oPts (F := F) (tgt b c) k f))

/-- The destination's first row block apart. -/
theorem dests_at (b : Bool) (c : Dev nD) :
    dests (F := F) b c = iprop((∃ f, oPts (F := F) (tgt b c) 0 f) ∗ bigSep (Finset.univ.erase 0) fun k : Fin 8 => iprop(∃ f, oPts (F := F) (tgt b c) k f)) :=
  bigSep_univ_at _ (0 : Fin 8)

set_option maxRecDepth 65536 in
set_option maxHeartbeats 4000000 in
/-- The head of the body, to the end of the first row block. -/
theorem part7 (b : Bool) (K : Dev nD × CK → ℕ) (c : Dev nD)
    (Q : (Σ' (d0 : Dev nD) (v2 : BitVec 32) (v5 : BitVec 32) (v10 : Elt F .i32) (k0_hw1 : k0_chk1 d0 v10), BitVec 1) → sProp 𝕄) (w₁ w₂ : BitVec 32)
    (hw₁ : w₁ = Scalar.remsi (Scalar.divsi (Dev.word c) 4#32) 2#32) (hw₂ : w₂ = Scalar.remsi (Scalar.divsi (Dev.word c) 2#32) 2#32) :
    iprop(headPre m b K c ∗ (headPost m b c -∗ Q ⟨c, w₁, w₂, pw b c, chk b c, if b then 1#1 else 0#1⟩)) ⊢
    wp frame (wpE (defs₀ (F := F)) 𝒱₀ (c : Thread nD τ) none) Set.univ
          (k0_part7 (Memref.whole cc0_stg0_0) (Memref.isWhole_whole _) (Memref.whole cc0_stg1_0) (Memref.isWhole_whole _)
            (Memref.whole main_v1) (Memref.isWhole_whole _) (Memref.whole cc0_scratch0) (Memref.isWhole_whole _) cc0_scratch1 cc0_scratch2) Q := by
  subst hw₁ hw₂
  rw [k0_part7_eq_skeleton]; unfold k0_part7_skel headPre piPt
  simp only [semSignalWord, semWaitWord, smemLoad, smemLoadElt, Prog.lift, Prog.bind_op, Prog.bind_ret, Prog.pure_eq_ret, Prog.bind_assoc, wp_deviceId]
  iintro ⟨⟨#HR, ⟨%W, HO⟩, Ht, Hv, Hp, Hx, Hs, Hc, Ha, Hl, Htk⟩, Hk⟩
  iapply (wp_load_rect 𝒱₀ (c : Thread nD τ) none Set.univ (m := piM) (r := r1 c) (Finset.subset_univ _)) $$ Hp; iintro Hp
  rw [word_eq]; simp only [wp_assume_of _ _ _ _ (d := k0_chk1.dec _ _) (chk b c)]
  ihave Hv' := (hand_over b c _) $$ Hv
  icases Hv' with ⟨Hbp, Hmy⟩
  iapply (signal_step b K c _ (dev1_eq c) _ rfl W) $$ [HO Ht Hbp]
  · isplitr; · iexact HR
    isplitl [HO]; · iexact HO
    isplitl [Ht]; · iexact Ht
    iexact Hbp
  iintro HO
  iapply (store_step c 0 k0_pay2 rfl) $$ [Hx Hs]
  · isplitl [Hx]; · iexact Hx
    iexact Hs
  iintro ⟨Hx, Hs⟩
  iapply (barrier_step b K c _ rfl) $$ [Hc Ha Hl HO]
  · isplitr; · iexact HR
    isplitl [Hc]; · iexact Hc
    isplitl [Ha]; · iexact Ha
    isplitl [Hl]; · iexact Hl
    iexact HO
  iintro ⟨HO, Hz, Hbp⟩
  ihave Hd := (handed b c) $$ [Hbp Hmy]
  · isplitl [Hbp]; · iexact Hbp
    iexact Hmy
  ihave Hd' := (Entails.of_eq (dests_at b c)) $$ Hd
  icases Hd' with ⟨Hd, Hr⟩
  cases b
  · simp only [moves, bit_stays, dif_neg (ncond1 c), if_pos f_xor, Prog.bind_op, Prog.bind_ret, Prog.pure_eq_ret, Prog.bind_assoc]
    iapply (copy_step K c 0) $$ [Hs Hd Htk]
    · isplitr; · iexact HR
      isplitl [Hs]; · iexact Hs
      isplitl [Hd]; · iexact Hd
      iexact Htk
    iintro Hcr
    rw [wp_ret]; imodintro; iapply Hk
    unfold headPost piPt
    isplitl [Hp]; · iexact Hp
    isplitl [Hx]; · iexact Hx
    isplitl [HO]; · unfold Ow; rw [oweFrom_stay, oweFrom_stay]; iexact HO
    isplitl [Hz]; · iexact Hz
    isplitl [Hcr]; · iexact Hcr
    iexact Hr
  · simp only [moves, bit_moves, cond1 c, t_xor, ↓reduceIte, ↓reduceDIte, Prog.bind_op, Prog.bind_ret, Prog.pure_eq_ret, Prog.bind_assoc]
    iapply (send_step K c _ (dev2_eq c _) 0) $$ [Hs Hd Htk HO]
    · isplitr; · iexact HR
      isplitl [Hs]; · iexact Hs
      isplitl [Hd]; · iexact Hd
      isplitl [Htk]; · iexact Htk
      iexact HO
    iintro ⟨Hcr, HO⟩
    rw [wp_ret]; imodintro; iapply Hk
    unfold headPost piPt
    isplitl [Hp]; · iexact Hp
    isplitl [Hx]; · iexact Hx
    isplitl [HO]; · iexact HO
    isplitl [Hz]; · iexact Hz
    isplitl [Hcr]; · iexact Hcr
    iexact Hr

/-- The body, with its operands. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole main_v1) (Memref.isWhole_whole _) (Memref.whole cc0_scratch0) (Memref.isWhole_whole _) cc0_scratch1 cc0_scratch2

omit [FloatOps F] in
theorem bigSep_fin7 (Φ : Fin 8 → sProp 𝕄) :
    bigSep (Finset.univ.erase 0) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ

/-- What the body needs beside its head: the other row blocks of the send buffer, their tokens, every position, and in the
    exchange the receive cells' credit. -/
def bodyRest (b : Bool) (c : Dev nD) : sProp 𝕄 :=
  iprop((bigSep (Finset.univ.erase 0) fun k : Fin 8 => iprop(∃ f, sPts (F := F) c k f)) ∗ (bigSep (Finset.univ.erase 0) fun k : Fin 8 => toks (F := F) c k)
    ∗ (bigSep Finset.univ fun k : Fin 8 => pos (F := F) c k)
    ∗ if b then bigSep Finset.univ fun k : Fin 8 => cred (tallyAt (recvCell c k) () N) else emp)

/-- What the body leaves. -/
def bodyEnd (b : Bool) (c : Dev nD) : sProp 𝕄 :=
  iprop(piPt b c ∗ xPt m c ∗ Ow b c 8 ∗ semVal (barCell c) 0 ∗ bigSep Finset.univ fun k : Fin 8 => done m b c k)

/-- The other row blocks' sources, destinations and tokens, block by block. -/
theorem mines (b : Bool) (c : Dev nD) :
    iprop((bigSep (Finset.univ.erase 0) fun k : Fin 8 => iprop(∃ f, sPts (F := F) c k f))
      ∗ (bigSep (Finset.univ.erase 0) fun k : Fin 8 => iprop(∃ f, oPts (F := F) (tgt b c) k f))
      ∗ bigSep (Finset.univ.erase 0) fun k : Fin 8 => toks (F := F) c k)
      ⊢ bigSep (Finset.univ.erase 0) fun k : Fin 8 => mine (F := F) b c k := by
  unfold mine
  rw [bigSep_sep', bigSep_sep']

/-- The records beside the head's resources and the rest's parts. -/
theorem bodyParts (b : Bool) (K : Dev nD × CK → ℕ) (c : Dev nD) :
    iprop(headPre m b K c ∗ bodyRest (F := F) b c)
      ⊢ iprop(records m b K ∗ headPre m b K c ∗ (bigSep (Finset.univ.erase 0) fun k : Fin 8 => iprop(∃ f, sPts (F := F) c k f))
        ∗ (bigSep (Finset.univ.erase 0) fun k : Fin 8 => toks (F := F) c k) ∗ (bigSep Finset.univ fun k : Fin 8 => pos (F := F) c k)
        ∗ if b then bigSep Finset.univ fun k : Fin 8 => cred (tallyAt (recvCell c k) () N) else emp) := by
  unfold headPre bodyRest
  iintro ⟨⟨#HR, Hh⟩, Hr⟩
  isplitr; · iexact HR
  isplitl [Hh]
  · isplitr; · iexact HR
    iexact Hh
  iexact Hr

/-- After the head: what remains, row block by row block. -/
theorem afterHead (b : Bool) (c : Dev nD) :
    iprop(headPost m b c ∗ (bigSep (Finset.univ.erase 0) fun k : Fin 8 => iprop(∃ f, sPts (F := F) c k f))
        ∗ (bigSep (Finset.univ.erase 0) fun k : Fin 8 => toks (F := F) c k))
      ⊢ iprop(piPt b c ∗ xPt m c ∗ Ow b c 1 ∗ semVal (barCell c) 0 ∗ cred (tallyAt (sendCell c 0) () N)
        ∗ mine b c 1 ∗ mine b c 2 ∗ mine b c 3 ∗ mine b c 4 ∗ mine b c 5 ∗ mine b c 6 ∗ mine b c 7) := by
  rw [← bigSep_fin7 fun k => mine (F := F) b c k]
  unfold headPost
  iintro ⟨⟨Hpi, Hx, HO, Hz, Hc, Hd⟩, Hs, Ht⟩
  isplitl [Hpi]; · iexact Hpi
  isplitl [Hx]; · iexact Hx
  isplitl [HO]; · iexact HO
  isplitl [Hz]; · iexact Hz
  isplitl [Hc]; · iexact Hc
  iapply (mines b c)
  isplitl [Hs]; · iexact Hs
  isplitl [Hd]; · iexact Hd
  iexact Ht

set_option maxRecDepth 65536 in
set_option maxHeartbeats 4000000 in
/-- The body in the exchange. -/
theorem body_x (K : Dev nD × CK → ℕ) (c : Dev nD) (Q : PUnit → sProp 𝕄) :
    iprop(headPre m true K c ∗ bodyRest (F := F) true c ∗ (bodyEnd m true c -∗ Q ⟨⟩)) ⊢
      wp frame (wpE (defs₀ (F := F)) 𝒱₀ (c : Thread nD τ) none) Set.univ theBody Q := by
  iintro ⟨Hh, Hr, Hk⟩
  icases (bodyParts m true K c) $$ [Hh Hr] with ⟨#HR, Hh, Hss, Hts, Hps, Hcs'⟩
  · isplitl [Hh]; · iexact Hh
    iexact Hr
  ihave Hcs := (Entails.of_eq (if_pos rfl)) $$ Hcs'
  unfold theBody
  rw [cc0_body_eq_skeleton]; unfold cc0_body_skel; rw [wp_bind]
  iapply (part7 m true K c _ _ _ rfl rfl)
  isplitl [Hh]; · iexact Hh
  iintro Hp
  simp only [bit_moves, cond3 c, cond5 c, cond7 c, cond9 c, cond11 c, cond13 c, cond15 c, t_xor, t_ext, ↓reduceIte, ↓reduceDIte,
    Prog.lift, Prog.bind_op, Prog.bind_ret, Prog.pure_eq_ret, Prog.bind_assoc,
    k0_part8_eq_skeleton, k0_part8_skel, k0_part9_eq_skeleton, k0_part9_skel, k0_part5_eq_skeleton, k0_part5_skel,
    k0_part1_eq_skeleton, k0_part1_skel, k0_part2_eq_skeleton, k0_part2_skel, k0_part3_eq_skeleton, k0_part3_skel,
    k0_part4_eq_skeleton, k0_part4_skel]
  icases (afterHead m true c) $$ [Hp Hss Hts] with ⟨Hpi, Hx, HO, Hz, C0, M1, M2, M3, M4, M5, M6, M7⟩
  · isplitl [Hp]; · iexact Hp
    isplitl [Hss]; · iexact Hss
    iexact Hts
  icases (Entails.of_eq (bigSep_fin8 fun k => pos (F := F) c k)) $$ Hps with ⟨P0, P1, P2, P3, P4, P5, P6, P7⟩
  icases (Entails.of_eq (bigSep_fin8 fun k => cred (tallyAt (recvCell c k) () N))) $$ Hcs with ⟨R0, R1, R2, R3, R4, R5, R6, R7⟩
  iapply (chunk_x K c _ (dev3_eq c _) 1 k0_pay3 rfl) $$ [Hx M1 HO]
  · isplitr; · iexact HR
    isplitl [Hx]; · iexact Hx
    isplitl [M1]; · iexact M1
    iexact HO
  iintro ⟨Hx, C1, HO⟩
  iapply (chunk_x K c _ (dev4_eq c _) 2 k0_pay4 rfl) $$ [Hx M2 HO]
  · isplitr; · iexact HR
    isplitl [Hx]; · iexact Hx
    isplitl [M2]; · iexact M2
    iexact HO
  iintro ⟨Hx, C2, HO⟩
  iapply (chunk_x K c _ (dev5_eq c _) 3 k0_pay5 rfl) $$ [Hx M3 HO]
  · isplitr; · iexact HR
    isplitl [Hx]; · iexact Hx
    isplitl [M3]; · iexact M3
    iexact HO
  iintro ⟨Hx, C3, HO⟩
  iapply (chunk_x K c _ (dev6_eq c _) 4 k0_pay6 rfl) $$ [Hx M4 HO]
  · isplitr; · iexact HR
    isplitl [Hx]; · iexact Hx
    isplitl [M4]; · iexact M4
    iexact HO
  iintro ⟨Hx, C4, HO⟩
  iapply (chunk_x K c _ (dev7_eq c _) 5 k0_pay7 rfl) $$ [Hx M5 HO]
  · isplitr; · iexact HR
    isplitl [Hx]; · iexact Hx
    isplitl [M5]; · iexact M5
    iexact HO
  iintro ⟨Hx, C5, HO⟩
  iapply (chunk_x K c _ (dev8_eq c _) 6 k0_pay8 rfl) $$ [Hx M6 HO]
  · isplitr; · iexact HR
    isplitl [Hx]; · iexact Hx
    isplitl [M6]; · iexact M6
    iexact HO
  iintro ⟨Hx, C6, HO⟩
  iapply (chunk_x K c _ (dev9_eq c _) 7 k0_pay1 rfl) $$ [Hx M7 HO]
  · isplitr; · iexact HR
    isplitl [Hx]; · iexact Hx
    isplitl [M7]; · iexact M7
    iexact HO
  iintro ⟨Hx, C7, HO⟩
  iapply (waits_step K c 0) $$ [C0 R0 P0 HO]
  · isplitr; · iexact HR
    isplitl [C0]; · iexact C0
    isplitl [R0]; · iexact R0
    isplitl [P0]; · iexact P0
    iexact HO
  iintro ⟨D0, HO⟩
  iapply (waits_step K c 1) $$ [C1 R1 P1 HO]
  · isplitr; · iexact HR
    isplitl [C1]; · iexact C1
    isplitl [R1]; · iexact R1
    isplitl [P1]; · iexact P1
    iexact HO
  iintro ⟨D1, HO⟩
  iapply (waits_step K c 2) $$ [C2 R2 P2 HO]
  · isplitr; · iexact HR
    isplitl [C2]; · iexact C2
    isplitl [R2]; · iexact R2
    isplitl [P2]; · iexact P2
    iexact HO
  iintro ⟨D2, HO⟩
  iapply (waits_step K c 3) $$ [C3 R3 P3 HO]
  · isplitr; · iexact HR
    isplitl [C3]; · iexact C3
    isplitl [R3]; · iexact R3
    isplitl [P3]; · iexact P3
    iexact HO
  iintro ⟨D3, HO⟩
  iapply (waits_step K c 4) $$ [C4 R4 P4 HO]
  · isplitr; · iexact HR
    isplitl [C4]; · iexact C4
    isplitl [R4]; · iexact R4
    isplitl [P4]; · iexact P4
    iexact HO
  iintro ⟨D4, HO⟩
  iapply (waits_step K c 5) $$ [C5 R5 P5 HO]
  · isplitr; · iexact HR
    isplitl [C5]; · iexact C5
    isplitl [R5]; · iexact R5
    isplitl [P5]; · iexact P5
    iexact HO
  iintro ⟨D5, HO⟩
  iapply (waits_step K c 6) $$ [C6 R6 P6 HO]
  · isplitr; · iexact HR
    isplitl [C6]; · iexact C6
    isplitl [R6]; · iexact R6
    isplitl [P6]; · iexact P6
    iexact HO
  iintro ⟨D6, HO⟩
  iapply (waits_step K c 7) $$ [C7 R7 P7 HO]
  · isplitr; · iexact HR
    isplitl [C7]; · iexact C7
    isplitl [R7]; · iexact R7
    isplitl [P7]; · iexact P7
    iexact HO
  iintro ⟨D7, HO⟩
  rw [wp_ret]; imodintro; iapply Hk
  unfold bodyEnd
  rw [bigSep_fin8 fun k => done m true c k]
  isplitl [Hpi]; · iexact Hpi
  isplitl [Hx]; · iexact Hx
  isplitl [HO]; · iexact HO
  isplitl [Hz]; · iexact Hz
  isplitl [D0]; · iexact D0
  isplitl [D1]; · iexact D1
  isplitl [D2]; · iexact D2
  isplitl [D3]; · iexact D3
  isplitl [D4]; · iexact D4
  isplitl [D5]; · iexact D5
  isplitl [D6]; · iexact D6
  iexact D7

set_option maxRecDepth 65536 in
set_option maxHeartbeats 4000000 in
/-- The body in the identity. -/
theorem body_s (K : Dev nD × CK → ℕ) (c : Dev nD) (Q : PUnit → sProp 𝕄) :
    iprop(headPre m false K c ∗ bodyRest (F := F) false c ∗ (bodyEnd m false c -∗ Q ⟨⟩)) ⊢
      wp frame (wpE (defs₀ (F := F)) 𝒱₀ (c : Thread nD τ) none) Set.univ theBody Q := by
  iintro ⟨Hh, Hr, Hk⟩
  icases (bodyParts m false K c) $$ [Hh Hr] with ⟨#HR, Hh, Hss, Hts, Hps, Hcs⟩
  · isplitl [Hh]; · iexact Hh
    iexact Hr
  unfold theBody
  rw [cc0_body_eq_skeleton]; unfold cc0_body_skel; rw [wp_bind]
  iapply (part7 m false K c _ _ _ rfl rfl)
  isplitl [Hh]; · iexact Hh
  iintro Hp
  simp only [bit_stays, ncond3 c, ncond5 c, ncond7 c, ncond9 c, ncond11 c, ncond13 c, ncond15 c, f_xor, f_ext, ↓reduceIte, ↓reduceDIte,
    Prog.lift, Prog.bind_op, Prog.bind_ret, Prog.pure_eq_ret, Prog.bind_assoc,
    k0_part8_eq_skeleton, k0_part8_skel, k0_part9_eq_skeleton, k0_part9_skel, k0_part6_eq_skeleton, k0_part6_skel]
  icases (afterHead m false c) $$ [Hp Hss Hts] with ⟨Hpi, Hx, HO, Hz, C0, M1, M2, M3, M4, M5, M6, M7⟩
  · isplitl [Hp]; · iexact Hp
    isplitl [Hss]; · iexact Hss
    iexact Hts
  icases (Entails.of_eq (bigSep_fin8 fun k => pos (F := F) c k)) $$ Hps with ⟨P0, P1, P2, P3, P4, P5, P6, P7⟩
  iapply (chunk_s K c 1 k0_pay3 rfl) $$ [Hx M1]
  · isplitr; · iexact HR
    isplitl [Hx]; · iexact Hx
    iexact M1
  iintro ⟨Hx, C1⟩
  iapply (chunk_s K c 2 k0_pay4 rfl) $$ [Hx M2]
  · isplitr; · iexact HR
    isplitl [Hx]; · iexact Hx
    iexact M2
  iintro ⟨Hx, C2⟩
  iapply (chunk_s K c 3 k0_pay5 rfl) $$ [Hx M3]
  · isplitr; · iexact HR
    isplitl [Hx]; · iexact Hx
    iexact M3
  iintro ⟨Hx, C3⟩
  iapply (chunk_s K c 4 k0_pay6 rfl) $$ [Hx M4]
  · isplitr; · iexact HR
    isplitl [Hx]; · iexact Hx
    iexact M4
  iintro ⟨Hx, C4⟩
  iapply (chunk_s K c 5 k0_pay7 rfl) $$ [Hx M5]
  · isplitr; · iexact HR
    isplitl [Hx]; · iexact Hx
    iexact M5
  iintro ⟨Hx, C5⟩
  iapply (chunk_s K c 6 k0_pay8 rfl) $$ [Hx M6]
  · isplitr; · iexact HR
    isplitl [Hx]; · iexact Hx
    iexact M6
  iintro ⟨Hx, C6⟩
  iapply (chunk_s K c 7 k0_pay1 rfl) $$ [Hx M7]
  · isplitr; · iexact HR
    isplitl [Hx]; · iexact Hx
    iexact M7
  iintro ⟨Hx, C7⟩
  ihave HO' := (show Ow (F := F) false c 1 ⊢ Ow false c 8 from by unfold Ow; rw [oweFrom_stay, oweFrom_stay]) $$ HO
  iapply (wait_step K c 0) $$ [C0 P0 HO']
  · isplitr; · iexact HR
    isplitl [C0]; · iexact C0
    isplitl [P0]; · iexact P0
    iexact HO'
  iintro ⟨D0, HO'⟩
  iapply (wait_step K c 1) $$ [C1 P1 HO']
  · isplitr; · iexact HR
    isplitl [C1]; · iexact C1
    isplitl [P1]; · iexact P1
    iexact HO'
  iintro ⟨D1, HO'⟩
  iapply (wait_step K c 2) $$ [C2 P2 HO']
  · isplitr; · iexact HR
    isplitl [C2]; · iexact C2
    isplitl [P2]; · iexact P2
    iexact HO'
  iintro ⟨D2, HO'⟩
  iapply (wait_step K c 3) $$ [C3 P3 HO']
  · isplitr; · iexact HR
    isplitl [C3]; · iexact C3
    isplitl [P3]; · iexact P3
    iexact HO'
  iintro ⟨D3, HO'⟩
  iapply (wait_step K c 4) $$ [C4 P4 HO']
  · isplitr; · iexact HR
    isplitl [C4]; · iexact C4
    isplitl [P4]; · iexact P4
    iexact HO'
  iintro ⟨D4, HO'⟩
  iapply (wait_step K c 5) $$ [C5 P5 HO']
  · isplitr; · iexact HR
    isplitl [C5]; · iexact C5
    isplitl [P5]; · iexact P5
    iexact HO'
  iintro ⟨D5, HO'⟩
  iapply (wait_step K c 6) $$ [C6 P6 HO']
  · isplitr; · iexact HR
    isplitl [C6]; · iexact C6
    isplitl [P6]; · iexact P6
    iexact HO'
  iintro ⟨D6, HO'⟩
  iapply (wait_step K c 7) $$ [C7 P7 HO']
  · isplitr; · iexact HR
    isplitl [C7]; · iexact C7
    isplitl [P7]; · iexact P7
    iexact HO'
  iintro ⟨D7, HO'⟩
  rw [wp_ret]; imodintro; iapply Hk
  unfold bodyEnd
  rw [bigSep_fin8 fun k => done m false c k]
  isplitl [Hpi]; · iexact Hpi
  isplitl [Hx]; · iexact Hx
  isplitl [HO']; · iexact HO'
  isplitl [Hz]; · iexact Hz
  isplitl [D0]; · iexact D0
  isplitl [D1]; · iexact D1
  isplitl [D2]; · iexact D2
  isplitl [D3]; · iexact D3
  isplitl [D4]; · iexact D4
  isplitl [D5]; · iexact D5
  isplitl [D6]; · iexact D6
  iexact D7

/-- The body, in either mode. -/
theorem body_run (b : Bool) (K : Dev nD × CK → ℕ) (c : Dev nD) (Q : PUnit → sProp 𝕄) :
    iprop(headPre m b K c ∗ bodyRest (F := F) b c ∗ (bodyEnd m b c -∗ Q ⟨⟩)) ⊢
      wp frame (wpE (defs₀ (F := F)) 𝒱₀ (c : Thread nD τ) none) Set.univ theBody Q :=
  match b with
  | true => body_x m K c Q
  | false => body_s m K c Q

/-! ## The pipeline's body obligation -/

omit [FloatOps F] in
theorem owns_whole_eq (c : Dev nD) (r : Ref sig .tc) (Y : r.ty.Contents (Elt F)) :
    (owns (Ix := Unit) (Name := ℕ) (U := UU) (Lvl := ℕ) (c : Thread nD τ) (Memref.whole r) fullShare Y : sProp 𝕄)
      = iprop(∃ f : Buf (Elt F) ((c : Thread nD τ).loc r), ⌜f = Y⌝ ∗ ((c : Thread nD τ).loc r) ↦{fullShare} f) := by
  unfold owns; simp only [Memref.view_whole, View.read_whole, View.set_whole]

abbrev stg (c : Dev nD) (r : Ref sig .tc) (Y : r.ty.Contents (Elt F)) : sProp 𝕄 :=
  iprop(∃ f : Buf (Elt F) ((c : Thread nD τ).loc r), ⌜f = Y⌝ ∗ ((c : Thread nD τ).loc r) ↦{fullShare} f)

/-- What the body is entered with, -/
def bodyPre (b : Bool) (c : Dev nD) : sProp 𝕄 :=
  iprop(Φ₀ m b c ∗ (dats m ρ b 0 c).owesAt () t0_0.castSucc
    ∗ (∃ d, stg c cc0_stg0_0 ((dats m ρ b 0 c).before (0 : Fin 2) t0_0 d))
    ∗ (∃ d, stg c cc0_stg1_0 ((dats m ρ b 0 c).before (1 : Fin 2) t0_0 d)))

/-- and what it leaves. -/
def bodyPost (b : Bool) (c : Dev nD) : sProp 𝕄 :=
  iprop(Φ₁ m b c ∗ (dats m ρ b 0 c).owesAt () t0_0.succ ∗ stg c cc0_stg0_0 (pstg m ρ c) ∗ stg c cc0_stg1_0 (xstg m ρ c))

/-- The send buffer's row blocks, the first apart. -/
theorem scratch_at (c : Dev nD) (f : Buf (Elt F) ((c : Thread nD τ).loc cc0_scratch0)) :
    (((c : Thread nD τ).loc cc0_scratch0) ↦{fullShare} f)
      ⊢ iprop((∃ f, sPts (F := F) c 0 f) ∗ bigSep (Finset.univ.erase 0) fun k : Fin 8 => iprop(∃ f, sPts (F := F) c k f)) := by
  rw [s_split, ← bigSep_univ_at (fun k : Fin 8 => iprop(∃ f, sPts (F := F) c k f)) (0 : Fin 8)]
  exact bigSep_mono fun k _ => exists_intro (Φ := fun f => sPts (F := F) c k f) f

/-- Every row block done: the cells at zero, the send buffer, and the result array. -/
theorem finish (b : Bool) (c : Dev nD) (f₀ : Buf (Elt F) ((c : Thread nD τ).loc cc0_scratch0)) :
    iprop(semVal (barCell c) 0 ∗ bigSep Finset.univ fun k : Fin 8 => done m b c k) ⊢ Φ₁ m b c := by
  unfold done Φ₁
  rw [bigSep_sep', bigSep_sep', bigSep_sep', bigSep_sep', o_split]
  iintro ⟨Hz, Hs, Hr, Hb, Ho⟩
  isplitl [Hb]; · iapply (s_join c f₀); iexact Hb
  isplitl [Hs Hr]
  · isplitl [Hs]; · iexact Hs
    iexact Hr
  isplitl [Hz]; · iexact Hz
  iexact Ho

/-- The body from what the pipeline enters it with to what it leaves. -/
theorem sound_body {b : Bool} (hp : PreOK m b) (c : Dev nD) (Kt : PUnit → sProp 𝕄) :
    iprop(bodyPre m ρ b c ∗ (bodyPost m ρ b c -∗ Kt ⟨⟩)) ⊢
      wp frame (wpE (defs₀ (F := F)) 𝒱₀ (c : Thread nD τ) none) Set.univ theBody Kt := by
  unfold bodyPre Φ₀ start ghost creds
  iintro ⟨⟨⟨⟨⟨%K, #HR, Ha, Ht, Hps, Hts⟩, ⟨Hc, Hcs⟩, Hl, Hv⟩, ⟨%f0, Hs⟩⟩, Ho, ⟨%d0, %g0, %hg0, Hpi⟩, ⟨%d1, %g1, %hg1, Hx⟩⟩, Hk⟩
  have h0 : g0 = piC b := by rw [hg0, ← pstg_eq m ρ hp c]; unfold Dat.before; rw [if_pos (fetch0_0 t0_0)]; rfl
  have h1 : g1 = X m c := by rw [hg1, ← xstg_eq m ρ c]; unfold Dat.before; rw [if_pos (fetch0_1 t0_0)]; rfl
  subst h0 h1
  unfold Dat.owesAt Pipeline.owesWithin
  icases Ho with ⟨%W, %hW, HO⟩
  rw [show (dats m ρ b 0 c).owed t0_0.castSucc = O₀ b c from rfl]
  icases (scratch_at c f0) $$ Hs with ⟨Hs0, Hss⟩
  icases (Entails.of_eq (bigSep_univ_at (fun k : Fin 8 => toks (F := F) c k) (0 : Fin 8))) $$ Hts with ⟨Ht0, Hts⟩
  iapply (body_run m b K c Kt)
  unfold headPre bodyRest piPt xPt
  isplitl [HO Ht Hv Hpi Hx Hs0 Hc Ha Hl Ht0]
  · isplitr; · iexact HR
    isplitl [HO]; · iexists W; iexact HO
    isplitl [Ht]; · iexact Ht
    isplitl [Hv]; · iexact Hv
    isplitl [Hpi]; · iexact Hpi
    isplitl [Hx]; · iexact Hx
    isplitl [Hs0]; · iexact Hs0
    isplitl [Hc]; · iexact Hc
    isplitl [Ha]; · iexact Ha
    isplitl [Hl]; · iexact Hl
    iexact Ht0
  isplitl [Hss Hts Hps Hcs]
  · isplitl [Hss]; · iexact Hss
    isplitl [Hts]; · iexact Hts
    isplitl [Hps]; · iexact Hps
    iexact Hcs
  unfold bodyEnd Ow piPt xPt
  iintro ⟨Hpi, Hx, ⟨%W', HO⟩, Hz, Hd⟩
  iapply Hk
  unfold bodyPost Dat.owesAt Pipeline.owesWithin
  rw [show (dats m ρ b 0 c).owed t0_0.succ = 0 from rfl, oweFrom_end]
  isplitl [Hz Hd]
  · iapply (finish m b c f0)
    isplitl [Hz]; · iexact Hz
    iexact Hd
  isplitl [HO]
  · iexists W'
    isplitr; · ipureintro; exact fun _ _ => Or.inl trivial
    iexact HO
  isplitl [Hpi]
  · iexists _; isplitr; · (ipureintro; exact (pstg_eq m ρ hp c).symm)
    iexact Hpi
  iexists _; isplitr; · (ipureintro; exact (xstg_eq m ρ c).symm)
  iexact Hx

set_option maxRecDepth 4000 in
/-- The library's body obligation on core `c`, in either mode. -/
theorem body_obligation {b : Bool} (hp : PreOK m b) (c : Dev nD) : BodyObligation (dats (F := F) m ρ b 0 c) (defs₀ (F := F)) 𝒱₀ () Set.univ := fun t => by
  rw [fin_N0 t]
  rw [bigSep_W0, bigSep_W0]
  simp only [owns_whole_eq]
  show bodyPre m ρ b c ⊢ wp frame (wpE (defs₀ (F := F)) 𝒱₀ (c : Thread nD τ) none) Set.univ theBody (fun _ => bodyPost m ρ b c)
  iintro H
  iapply (sound_body m ρ hp c fun _ => bodyPost m ρ b c)
  isplitl [H]; · iexact H
  iintro H; iexact H

end Cert.Perm

end
-- ==== Proof.Launch.lean ====
/-
The launch of `k`: the protocol's cells and tokens minted and dealt around the mesh, the credit each device waits with, and
the run of the whole mesh from any memory whose tables satisfy the precondition.
-/
module

public import proofs.«01_k».proof.Proof.Body
public import Idealize.ShloMosaic.Lib.Pipeline.CollectiveSegs

@[expose] public section

noncomputable section

namespace Cert.Perm

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: the send and the receive semaphore of each row block. -/
abbrev osem (i : Bool × Fin 8) : SemLoc sig := csem (some i)

theorem ownSemFacts : Pipeline.OwnSemFacts cfg0.spec osem := by decide

theorem share_eq (b : Bool) (c : Dev nD) (w : Fin cfg0.W) : (dats m ρ b 0 c).share w = fullShare := by unfold Dat.share; split <;> rfl

theorem kcell_inj : Function.Injective (fun ci : Dev nD × CK => (kcell ci.1 ci.2 : GSem nD τ sig)) := by
  rintro ⟨c, i⟩ ⟨c', i'⟩ h
  have h1 : c = c' := congrArg (fun g : GSem nD τ sig => g.1.1) h
  have h2 : i = i' := csem_inj (congrArg Prod.snd h)
  rw [h1, h2]

/-- Every cell of the protocol, and one token for each. -/
def allCells : Finset (GSem nD τ sig) := Finset.univ.map ⟨_, kcell_inj⟩
def allToks : Finset (GSem nD τ sig × ℕ × Unit) :=
  Finset.univ.map ⟨fun ci : Dev nD × CK => ((kcell ci.1 ci.2 : GSem nD τ sig), 0, ()), fun _ _ h => kcell_inj (congrArg Prod.fst h)⟩

def u₀ : UU :=
  (initOf (Pipeline.cells cfgs cellOf_inj) (Pipeline.launchToks cfgs cellOf_inj), initOf allCells allToks)

omit [FloatOps F] in
/-- A device's cells one kind after the other: the barrier, the sends, the receives. -/
theorem bigSep_ck (Φ : CK → sProp 𝕄) : bigSep Finset.univ Φ
    = iprop(Φ none ∗ (bigSep Finset.univ fun k : Fin 8 => Φ (some (false, k))) ∗ bigSep Finset.univ fun k : Fin 8 => Φ (some (true, k))) := by
  have h : (Finset.univ : Finset CK).erase none = (Finset.univ : Finset (Bool × Fin 8)).map Function.Embedding.some := by decide
  have hb (Ψ : Bool → sProp 𝕄) : bigSep Finset.univ Ψ = iprop(Ψ false ∗ Ψ true) := bigSep_univ_eq_bigSepL [false, true] (by decide) (by decide) Ψ
  rw [bigSep_univ_at Φ none, h, bigSep_map, bigSep_univ_prod, hb]; rfl

/-- What the launch deals device `c`: its own cells' states, positions and tokens. -/
def G (b : Bool) (c : Dev nD) : sProp 𝕄 :=
  iprop((bigSep Finset.univ fun i : CK => roundState ER (rd m b) (kcell c i) 0)
    ∗ (bigSep Finset.univ fun i : CK => iprop(atPos ER (kcell c i) 0 ∅ 0 ∗ reached ER (kcell c i) 0))
    ∗ bigSep Finset.univ fun i : CK => dutyTok ER (kcell c i) 0 ())

/-- What it is after the invariants are set up and the tokens dealt. -/
def G' (b : Bool) (c : Dev nD) : sProp 𝕄 := iprop(∃ K, ghost m b K c)

omit [FloatOps F] in
theorem fund (b : Bool) : BI.own (ER (initOf allCells allToks)) ⊢ (|==> bigSep Finset.univ (G m b) : sProp 𝕄) := by
  have hX (Φ : GSem nD τ sig → sProp 𝕄) : bigSep allCells Φ = bigSep Finset.univ fun c : Dev nD => bigSep Finset.univ fun i : CK => Φ (kcell c i) := by
    unfold allCells; rw [bigSep_map, bigSep_univ_prod]; rfl
  have hT : bigSep allToks (fun x => (dutyTok ER x.1 x.2.1 x.2.2 : sProp 𝕄))
      = bigSep Finset.univ fun c : Dev nD => bigSep Finset.univ fun i : CK => dutyTok ER (kcell c i) 0 () := by
    unfold allToks; rw [bigSep_map, bigSep_univ_prod]; rfl
  iintro HX
  imod (Rounds.fund ER (rd m b) allCells allToks) $$ HX with ⟨Hst, Hr, Hat, Htok⟩
  imodintro
  ihave Hst' := (Entails.of_eq (hX fun g => roundState ER (rd m b) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

local notation "ownZ" => Pipeline.ownSems0 (Ix := Unit) (Name := ℕ) (U := UU) (Lvl := ℕ) (Val := Elt F) (τ := τ) osem

omit [FloatOps F] in
theorem ownSems0_eq (c : Dev nD) : (ownZ c : sProp 𝕄)
    = iprop((bigSep Finset.univ fun k : Fin 8 => semVal (sendCell c k) 0) ∗ bigSep Finset.univ fun k : Fin 8 => semVal (recvCell c k) 0) := by
  have hb (Ψ : Bool → sProp 𝕄) : bigSep Finset.univ Ψ = iprop(Ψ false ∗ Ψ true) := bigSep_univ_eq_bigSepL [false, true] (by decide) (by decide) Ψ
  unfold Pipeline.ownSems0; rw [bigSep_univ_prod, hb]
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(ownZ c ∗ unscopedSems0 c) ⊢ (bigSep Finset.univ fun i : CK => semVal (kcell c i) 0 : sProp 𝕄) := by
  rw [ownSems0_eq, unscopedSems0_eq, bigSep_ck]
  iintro ⟨⟨HS, HV⟩, HB⟩
  isplitl [HB]; · iexact HB
  isplitl [HS] <;> iassumption

/-- One device's cells under invariants. -/
def made (b : Bool) (c : Dev nD) : sProp 𝕄 :=
  iprop((bigSep Finset.univ fun i : CK => iprop(∃ κ : ℕ, cellInv ER (rd m b) κ (kcell c i)))
    ∗ (bigSep Finset.univ fun i : CK => iprop(atPos ER (kcell c i) 0 ∅ 0 ∗ reached ER (kcell c i) 0))
    ∗ bigSep Finset.univ fun i : CK => dutyTok ER (kcell c i) 0 ())

omit [FloatOps F] in
theorem core_alloc (b : Bool) (c : Dev nD) : iprop(ownZ c ∗ unscopedSems0 c ∗ G m b c) ⊢ |={Set.univ}=> made m b c := by
  unfold G made
  iintro ⟨Hos, Hus, Hst, Hat, Htok⟩
  ihave Hv := (sems0_eq (F := F) c) $$ [Hos Hus]
  · isplitl [Hos] <;> iassumption
  imod (show iprop((bigSep Finset.univ fun i : CK => semVal (kcell c i) 0) ∗ bigSep Finset.univ fun i : CK => roundState ER (rd m b) (kcell c i) 0)
      ⊢ (|={Set.univ}=> bigSep Finset.univ fun i : CK => iprop(∃ κ : ℕ, cellInv ER (rd m b) κ (kcell c i)) : sProp 𝕄) from by
        rw [← bigSep_sep']
        exact (bigSep_mono fun i _ => (Rounds.body_intro ER (rd m b) (kcell c i)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the mesh -/

/-- What stays with device `c`: its positions and the tokens of the duties it pays. -/
def linear (c : Dev nD) : sProp 𝕄 :=
  iprop(atPos ER (barCell c) 0 ∅ 0 ∗ dutyTok ER (barCell (peer c)) 0 ()
    ∗ (bigSep Finset.univ fun k : Fin 8 => pos (F := F) c k) ∗ bigSep Finset.univ fun k : Fin 8 => toks (F := F) c k)

omit [FloatOps F] in
theorem ghost_intro (b : Bool) (K : Dev nD × CK → ℕ) (c : Dev nD) : iprop(records m b K ∗ linear (F := F) c) ⊢ G' m b c := by
  unfold G' ghost linear
  iintro H
  iexists K
  iexact H

omit [FloatOps F] in
/-- Each barrier's token and each receive cell's goes to the peer, each send cell's stays. -/
theorem deal : iprop((bigSep Finset.univ fun c : Dev nD => bigSep Finset.univ fun i : CK => atPos ER (kcell c i) 0 ∅ 0)
      ∗ bigSep Finset.univ fun c : Dev nD => bigSep Finset.univ fun i : CK => dutyTok ER (kcell c i) 0 ())
    ⊢ (bigSep Finset.univ fun c : Dev nD => linear (F := F) c : sProp 𝕄) := by
  unfold linear pos toks
  simp only [bigSep_ck, bigSep_sep']
  rw [bigSep_univ_equiv swapE (fun c : Dev nD => (dutyTok ER (barCell c) 0 () : sProp 𝕄)),
    bigSep_univ_equiv swapE (fun c : Dev nD => (bigSep Finset.univ fun k : Fin 8 => dutyTok ER (recvCell c k) 0 () : sProp 𝕄))]
  iintro ⟨⟨A1, A2, A3⟩, T1, T2, T3⟩
  isplitl [A1]; · iexact A1
  isplitl [T1]; · iexact T1
  isplitl [A2 A3]
  · isplitl [A2]; · iexact A2
    iexact A3
  isplitl [T2]; · iexact T2
  iexact T3

omit [FloatOps F] in
theorem regroup (b : Bool) : (bigSep Finset.univ fun c : Dev nD => made m b c : sProp 𝕄) ⊢ bigSep Finset.univ (G' m b) := by
  unfold made
  rw [bigSep_sep', bigSep_sep', ← bigSep_univ_prod (fun ci : Dev nD × CK => iprop(∃ κ : ℕ, cellInv ER (rd m b) κ (kcell ci.1 ci.2))),
    bigSep_congr (s := Finset.univ) (fun (c : Dev nD) _ => bigSep_sep' Finset.univ (fun i : CK => (atPos ER (kcell c i) 0 ∅ 0 : sProp 𝕄)) (fun i => reached ER (kcell c i) 0)),
    bigSep_sep', ← bigSep_univ_prod (fun ci : Dev nD × CK => (reached ER (kcell ci.1 ci.2) 0 : sProp 𝕄))]
  iintro ⟨HI, ⟨Hat, #HR⟩, Htok⟩
  ihave HK := (BI.bigSep_exists_pi Finset.univ (fun (ci : Dev nD × CK) (κ : ℕ) => (cellInv ER (rd m b) κ (kcell ci.1 ci.2) : sProp 𝕄))) $$ HI
  icases HK with ⟨%K, #HI⟩
  ihave Hl := (deal (F := F)) $$ [Hat Htok]
  · isplitl [Hat] <;> iassumption
  iapply (bigSep_with_persistent (R := records m b K) fun c _ => ghost_intro m b K c)
  isplitr
  · unfold records; isplitl; · iexact HI
    iexact HR
  · iexact Hl

omit [FloatOps F] in
/-- All devices' semaphores under invariants at once, and the tokens dealt. -/
theorem glob (b : Bool) : (bigSep Finset.univ fun c => iprop(ownZ c ∗ unscopedSems0 c ∗ G m b c) : sProp 𝕄)
    ⊢ |={Set.univ}=> bigSep Finset.univ (G' m b) :=
  ((bigSep_mono fun c _ => core_alloc m b c).trans (bigSep_fupd _ _)).trans (BI.fupd_mono (regroup m b))

/-! ## The credit dealt at launch -/

theorem peer_eq {d c : Dev nD} (h : peer d = c) : d = peer c := by rw [← h, peer_peer]

/-- What device `d` owes device `c`'s barrier cell: its signal, if `d` is `c`'s peer. -/
theorem owed_bar (b : Bool) (d c : Dev nD) : O₀ b d (barCell c) () = if d = peer c then 1 else 0 := by
  unfold O₀
  rw [Pi.add_apply, Finsupp.add_apply, tallyAt_apply]
  have hz : oweFrom b d 0 (barCell c) () = 0 := by
    by_contra hn
    obtain ⟨k, hk⟩ := oweFrom_pos (Nat.pos_of_ne_zero hn)
    have h := congrArg Prod.snd hk
    cases h
  rw [hz, Nat.zero_add]
  by_cases h : d = peer c
  · subst h; rw [peer_peer, if_pos ⟨rfl, rfl⟩, if_pos rfl]
  · rw [if_neg fun h' => h (peer_eq (congrArg (fun g : GSem nD τ sig => g.1.1) h'.1).symm), if_neg h]

/-- What it owes device `c`'s receive cell `k` in the exchange: a row block's copy, if `d` is `c`'s peer. -/
theorem owed_recv (d c : Dev nD) (k : Fin 8) : O₀ true d (recvCell c k) () = if d = peer c then N else 0 := by
  unfold O₀ oweFrom
  rw [Pi.add_apply, Finsupp.add_apply, tallyAt_apply, if_neg (fun h => by have h' := congrArg Prod.snd h.1; cases h'), Nat.add_zero,
    Finset.sum_apply, Finsupp.finset_sum_apply, Finset.sum_eq_single k]
  · rw [tallyAt_apply]
    by_cases h : d = peer c
    · subst h; rw [peer_peer, if_pos ⟨rfl, rfl⟩, if_pos rfl]
    · rw [if_neg fun h' => h (peer_eq (congrArg (fun g : GSem nD τ sig => g.1.1) h'.1).symm), if_neg h]
  · intro j _ hj
    rw [tallyAt_apply, if_neg fun h => hj ?_]
    have h2 : (some (true, k) : CK) = some (true, j) := csem_inj (congrArg Prod.snd h.1)
    exact (congrArg Prod.snd (Option.some.inj h2)).symm
  · intro h; exact absurd (Finset.mem_filter.mpr ⟨Finset.mem_univ _, rfl, Nat.zero_le _⟩) h

theorem launch_bar (b : Bool) (c : Dev nD) :
    tallyOn (barCell c) (launchCredit (Pipeline.owing (O₀ b)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar b d c,
    Finset.sum_ite_eq' Finset.univ (peer c) fun _ => 1, if_pos (Finset.mem_univ _)]

theorem launch_recv (c : Dev nD) (k : Fin 8) :
    tallyOn (recvCell c k) (launchCredit (Pipeline.owing (O₀ true)) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (peer c) fun _ => N, if_pos (Finset.mem_univ _)]

/-- The receive semaphores, as semaphores of a device. -/
def recvE : Fin 8 ↪ SemLoc sig := ⟨fun k => .dma (recvS k), fun j k h => by
  have h2 : (some (true, j) : CK) = some (true, k) := csem_inj h
  exact congrArg Prod.snd (Option.some.inj h2)⟩

omit [FloatOps F] in
theorem creds_intro (b : Bool) (c : Dev nD) : (Pipeline.launchCred (O₀ b) c : sProp 𝕄) ⊢ creds (F := F) b c := by
  unfold Pipeline.launchCred creds
  rw [bigSep_univ_at _ (SemLoc.reg barS), launch_bar]
  refine sep_mono_right ?_
  cases b
  · rw [if_neg Bool.false_ne_true]; iintro -; iempintro
  · rw [if_pos rfl]
    refine (bigSep_subset (t := Finset.univ.map recvE) fun sm h => ?_).trans ?_
    · obtain ⟨k, -, rfl⟩ := Finset.mem_map.mp h
      exact Finset.mem_erase.mpr ⟨(by intro h; have h' : (SemLoc.dma (recvS k) : SemLoc sig) = .reg barS := h; cases h'), Finset.mem_univ _⟩
    · rw [bigSep_map]
      exact bigSep_mono fun k _ => Entails.of_eq (congrArg (fun t => (cred t : sProp 𝕄)) (launch_recv c k))

/-! ## The theorem's side conditions -/

theorem start_intro (b : Bool) (c : Dev nD) :
    iprop(Pipeline.unscopedRestP Pipeline.Prefetch.none cfg0.spec c (fun r => m ((c : Thread nD τ).loc r)) ∗ levAts L lv
        ∗ Pipeline.launchCred (O₀ b) c ∗ prngReg c (ρ c) ∗ G' m b c)
      ⊢ |={Set.univ}=> iprop(start m b c ∗ emp) := by
  rw [Pipeline.unscopedRestP_none, show cfg0.spec = spec0 from rfl, unscopedRest0_eq]
  iintro ⟨Hv, Hlev, Hcr, -, HG⟩
  ihave Hc := (creds_intro (F := F) b c) $$ Hcr
  imodintro
  unfold start G'
  isplitl
  · isplitl [HG]; · iexact HG
    isplitl [Hc]; · iexact Hc
    isplitl [Hlev]; · iexact Hlev
    iexact Hv
  · iempintro

theorem phi0_intro (b : Bool) (c : Dev nD) :
    iprop(start m b c ∗ Pipeline.prefHeld Pipeline.Prefetch.none c (fun _ => fullShare.right) (fun k => k.elim0) ∗ Pipeline.scopedRest cfg0.spec c)
      ⊢ (dats m ρ b 0 c).Φ 0 := by
  rw [show (dats m ρ b 0 c).Φ 0 = Φ₀ m b c from rfl, show cfg0.spec = spec0 from rfl, scopedRest0_eq]
  unfold Φ₀
  iintro ⟨Hs, -, Hr⟩
  isplitl [Hs]; · iexact Hs
  iexact Hr

/-- What a device brings out of its run: its barrier cell at zero and its result array. -/
def endY (b : Bool) (c : Dev nD) : sProp 𝕄 := iprop(unscopedSems0 c ∗ ((c : Thread nD τ).loc main_v1) ↦{fullShare} X m (tgt b c))

theorem phi1_exit (b : Bool) (c : Dev nD) :
    (dats m ρ b 0 c).Φ (Fin.last cfg0.N) ⊢ iprop(endY m b c ∗ ownZ c ∗ Pipeline.scopedRest cfg0.spec c) := by
  rw [show (dats m ρ b 0 c).Φ (Fin.last cfg0.N) = Φ₁ m b c from rfl, show cfg0.spec = spec0 from rfl, scopedRest0_eq, ownSems0_eq]
  unfold Φ₁ endY
  rw [unscopedSems0_eq, bigSep_sep']
  iintro ⟨Hr, HzS, HzB, Hv⟩
  isplitl [HzB Hv]
  · isplitl [HzB] <;> iassumption
  isplitl [HzS] <;> iassumption

theorem waits (b : Bool) (c : Dev nD) : (levAts L lv : sProp 𝕄) ⊢ Pipeline.cellsWaits cfgs (dats m ρ b) () 0 c :=
  Pipeline.cellsWaits_intro cfgs (dats m ρ b) () 0 c fun w s t =>
    mayWait_stage b c _ (by fin_cases w <;> fin_cases s <;> decide) _ (by
      rcases t with ⟨_ | _, ht⟩
      · exact Or.inl rfl
      · exact Or.inr rfl)

/-- What the final state has on device `c`, beside its operands. -/
def endQ (b : Bool) (c : Dev nD) (s : MemSt nD τ sig (Elt F)) : Prop :=
  s.mem ((c : Thread nD τ).loc main_v1) = X m (tgt b c) ∧ ∀ sm : SemLoc sig, sm.isScoped .tc = false → s.sem ((c.tc : Thread nD τ), sm) = 0

theorem end_read (b : Bool) (c : Dev nD) (s' : Phys nD τ sig (Elt F)) :
    iprop(endY m b c ∗ emp ∗ SI s') ⊢ |={Set.univ}=> (iprop(⌜endQ m b c s'.mem⌝ ∗ SI s') : sProp 𝕄) := by
  unfold endY
  iintro ⟨⟨Hu, Hv⟩, -, HSI⟩
  icombine HSI Hv gives %h
  have hm : s'.mem.mem ((c : Thread nD τ).loc main_v1) = X m (tgt b c) := Buf.eq_of_forall_mem_univ h
  ihave HR := (Pipeline.unscopedSems0_read (X := unscopedSems0 c) (c := c) fupd_intro s') $$ [Hu HSI]
  · isplitl [Hu] <;> iassumption
  imod HR with ⟨%hs, HSI⟩
  imodintro
  isplitr
  · ipureintro; exact ⟨hm, hs⟩
  · iexact HSI

/-! ## The run -/

/-- The final state: on every device both operands as they were, the result the shard of the device that sends there; every
    semaphore counter zero. -/
def Post (b : Bool) (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = X m (tgt b c)) ∧ s.sem = fun _ => 0

set_option maxRecDepth 8000 in
/-- Every run of the mesh from a memory whose tables satisfy the precondition, every counter zero, ends in `Post`. -/
theorem run_main {b : Bool} (hp : PreOK m b) : θ_run defs (onTc (τ := τ) (main (F := F))) (s₀ m ρ) (fun r => Post m b r.2) :=
  Pipeline.θ_run_region_owing_glob_pf (fun p => (cfgs p).toPCfg) (fun p => (cfgs p).toPCfg_adm) (dats m ρ b) () cellOf_inj (0 : Fin 1)
    winFacts0.to₀ ownSemFacts (Pipeline.PreFacts.none _) EP defs₀ 𝒱₀ m ρ main
    (hmain := fun _ => rfl)
    (hbody := body_obligation m ρ hp) (hne := fun w => block_pos0 w) (harr := arr_whole0) (hstage := stage_whole0) (hshare := share_eq m ρ b)
    (hdistinct := winFacts0.arr_inj)
    (O₀ := O₀ b) (howed₀ := fun _ => rfl) (howedN := fun _ => rfl)
    (L := L) (lv := lv) (hL := L_of_ne) (hwaits := waits m ρ b)
    (G := G m b) (G' := G' m b) (u₀ := u₀)
    (hu₀ := by
      unfold u₀
      iintro Hu
      ihave H := (ownU_pair _ _) $$ Hu
      icases H with ⟨HP, HX⟩
      imod (fund m b) $$ HX with HG
      imodintro
      isplitl [HP] <;> iassumption)
    (hglob := glob m b)
    (hA := fun _ _ => rfl) (hpf := fun _ k => k.elim0)
    (X := start m b) (Y := endY m b) (Z := fun _ => iprop(emp))
    (hX := start_intro m ρ b) (hin := phi0_intro m ρ b) (hout := phi1_exit m ρ b)
    (QY := endQ m b) (hY := end_read m b)
    (hQ := fun _ h hs => ⟨fun c =>
        ⟨((h c).1 (1 : Fin 2)).trans ((dats m ρ b 0 c).arrAt_in (1 : Fin 2) rfl _),
          ((h c).1 (0 : Fin 2)).trans ((dats m ρ b 0 c).arrAt_in (0 : Fin 2) rfl _), (h c).2.2.1⟩,
      sem_eq_zero hs fun c => (h c).2.2.2⟩)

end Cert.Perm

end
-- ==== Proof.Value.lean ====
/-
The value of `k`: what the two preconditions say of the table, the reference's result for either table, and the block of it
that each device holds.
-/
module

public import proofs.«01_k».proof.Defs
public import proofs.«01_k».proof.Proof.Launch
public import proofs.«01_k».proof.Proof.Gen.ReferenceIdeal.Run

@[expose] public section

noncomputable section

namespace Cert.Perm

open Idealize.ShloMosaic Idealize.SL.Sem
open Idealize.ShloMosaic.TcCoe

variable {F : FTy → Type} [FloatOps F]

/-! ## The preconditions -/

/-- The exchange's predicate holds of the table `[1, 0]` alone. -/
theorem table_exchange [Cert.Pre_exchange_Kernel.Facts] {x : FVec F Cert.Pre_exchange_Kernel.S1x1024x1024 .bf16} {p : IVec Cert.Pre_exchange_Kernel.S2 32}
    (h : Cert.Pre_exchange_Kernel.fn (F := F) x p = fun _ => 1#1) : p = piC (F := F) true := funext fun i => by
  have hs : ∀ q : BitVec 32, IntOp.cmpi .eq (p i) q = 1#1 → p i = q := fun q hq => by
    have hb : ∀ t : Bool, BitVec.ofBool t = 1#1 → t = true := by decide
    exact eq_of_beq (hb _ hq)
  have hi : ∀ k : Fin 2, (1#32 - BitVec.ofNat 32 k.val : BitVec 32) = BitVec.ofNat 32 (1 - k.val) := by decide
  exact (hs (1#32 - BitVec.ofNat 32 (i 0).val) (congrFun h i)).trans (hi (i 0))

/-- The other predicate holds of the table `[0, 1]` alone. -/
theorem table_stay [Cert.Pre_stay_Kernel.Facts] {x : FVec F Cert.Pre_stay_Kernel.S1x1024x1024 .bf16} {p : IVec Cert.Pre_stay_Kernel.S2 32}
    (h : Cert.Pre_stay_Kernel.fn (F := F) x p = fun _ => 1#1) : p = piC (F := F) false := funext fun i => by
  have hs : ∀ q : BitVec 32, IntOp.cmpi .eq (p i) q = 1#1 → p i = q := fun q hq => by
    have hb : ∀ t : Bool, BitVec.ofBool t = 1#1 → t = true := by decide
    exact eq_of_beq (hb _ hq)
  exact hs (BitVec.ofNat 32 (i 0).val) (congrFun h i)

/-! ## The reference's result -/

section Ref
open Cert.ReferenceIdeal Cert.ReferenceIdeal.Gen

/-- The rows the reference takes, as it computes them from the table: the stable sort's positions, a negative one counted
    from the end. -/
def rows (p : IVec S2 32) : IVec S2x1 32 :=
  let s := (Host.sort2 S2 0 comparator_i32_i32_d0 p (iotaInDim S2 32 0)).2
  broadcastInDim S2x1 ![0] bcast_S2_S2x1_0 (select (cmpi .slt s (broadcastInDim S2 ![] bcast_S_S2 (constantI S_ 32 0#32)))
    (addi s (broadcastInDim S2 ![] bcast_S_S2 (constantI S_ 32 2#32))) s)

/-- The table, spelt out. -/
def table (b : Bool) : IVec S2 32 := fun i => BitVec.ofNat 32 (if b then 1 - (i 0).val else (i 0).val)

/-- For either table the row taken at position `i` is the table's entry there: both permutations are their own inverses. -/
theorem rows_table (b : Bool) : ∀ i : S2x1.Idx, rows (table b) i = BitVec.ofNat 32 (if b then 1 - (i 0).val else (i 0).val) := by
  cases b <;> decide +kernel

/-- Taking whole slabs along the first axis, at an index: the slab the row list names there. -/
theorem take_slab {α : Type} (x : S2x1024x1024.Idx → α) (r : IVec S2x1 32) (j : S2x1024x1024.Idx) (k : Fin 2)
    (hk : ∀ i : S2x1.Idx, (i 0).val = (j 0).val → r i = BitVec.ofNat 32 k.val) (j' : S2x1024x1024.Idx)
    (h0 : (j' 0).val = k.val) (h1 : (j' 1).val = (j 1).val) (h2 : (j' 2).val = (j 2).val) :
    Host.gather gather_S2x1024x1024_S2x1_S2x1024x1024_12_0_n_n_0_1_110241024 x r j = x j' := by
  unfold Host.gather
  refine congrArg x (funext fun a => Fin.ext ?_)
  set d := gather_S2x1024x1024_S2x1_S2x1024x1024_12_0_n_n_0_1_110241024 with hd
  show d.start j r a + d.batchCoord j a + d.offCoord j a = (j' a).val
  rw [d.batchCoord_eq_zero _ _ List.not_mem_nil, Nat.add_zero]
  match a with
  | ⟨0, _⟩ =>
    show d.start j r 0 + d.offCoord j 0 = (j' 0).val
    rw [d.offCoord_eq_zero _ _ (fun h => ((d.mem_sKept _).mp h).1 (List.mem_singleton.mpr rfl)), Nat.add_zero, h0]
    unfold GatherDims.start
    rw [dif_pos (show (0 : Fin 3) ∈ d.startIndexMap from List.mem_singleton.mpr rfl), hk _ rfl]
    have hc : ∀ k : Fin 2, min (BitVec.ofNat 32 k.val).toInt.toNat (2 - 1) = k.val := by decide
    exact hc k
  | ⟨1, _⟩ =>
    show d.start j r 1 + d.offCoord j 1 = (j' 1).val
    unfold GatherDims.start
    rw [dif_neg (show (1 : Fin 3) ∉ d.startIndexMap by show (1 : Fin 3) ∉ [0]; decide), Nat.zero_add, h1]; rfl
  | ⟨2, _⟩ =>
    show d.start j r 2 + d.offCoord j 2 = (j' 2).val
    unfold GatherDims.start
    rw [dif_neg (show (2 : Fin 3) ∉ d.startIndexMap by show (2 : Fin 3) ∉ [0]; decide), Nat.zero_add, h2]; rfl

/-- The reference's result. -/
def refV (x : S2x1024x1024.Idx → Elt Ideal .bf16) (p : IVec S2 32) : S2x1024x1024.Idx → Elt Ideal .bf16 :=
  truncf (F := Ideal) .bf16 (extf .f32 (Host.gather gather_S2x1024x1024_S2x1_S2x1024x1024_12_0_n_n_0_1_110241024 x (rows p)) bitsLt_bf16_f32) bitsLt_bf16_f32

/-- The slab of device `c`'s target in the whole argument is the slab of `c` in the reference's result. -/
theorem block_eq (b : Bool) (x : S2x1024x1024.Idx → Elt Ideal .bf16) (c : Fin 8) :
    Layout.blockN ⟨3, ![1, 1024, 1024]⟩ ⟨3, ![2, 1024, 1024]⟩ (Layout.meshBlock [2, 2, 2] ![[2], [], []] (tgt b c)) x
      = Layout.blockN ⟨3, ![1, 1024, 1024]⟩ ⟨3, ![2, 1024, 1024]⟩ (Layout.meshBlock [2, 2, 2] ![[2], [], []] c) (refV x (table b)) := by
  have hz : ∀ e : Fin 8, Layout.meshLin [2, 2, 2] e.val [2] = e.val % 2 := by decide
  have ht : (tgt b c).val % 2 = if b then 1 - c.val % 2 else c.val % 2 := by cases b <;> revert c <;> decide
  funext i
  have hi : (i 0).val = 0 := Nat.lt_one_iff.mp (i 0).isLt
  refine (take_slab x (rows (table b)) _ ⟨(tgt b c).val % 2, Nat.mod_lt _ Nat.two_pos⟩ (fun q hq => ?_) _ ?_ ?_ ?_).symm
  · rw [rows_table, hq, Layout.TilesN.idx_val]
    show BitVec.ofNat 32 (if b then 1 - (Layout.meshLin [2, 2, 2] c.val [2] * 1 + (i 0).val) else Layout.meshLin [2, 2, 2] c.val [2] * 1 + (i 0).val)
      = BitVec.ofNat 32 ((tgt b c).val % 2)
    rw [hz, hi, ht, Nat.mul_one, Nat.add_zero]
  · show Layout.meshLin [2, 2, 2] (tgt b c).val [2] * 1 + (i 0).val = _
    rw [hz, hi]; simp
  · rfl
  · rfl

end Ref

/-! ## The claims, once for both tables -/

/-- At any float values: the frame of the kernel. -/
theorem frame_of {b : Bool} (m : (ℓ : Loc Cert.KernelIdeal.nD Cert.KernelIdeal.τ Cert.KernelIdeal.sig) → Buf (Elt F) ℓ) (g : Dev Cert.KernelIdeal.nD → PrngReg)
    (hp : PreOK m b) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (run_main m g hp)

/-- The frame of the reference. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems rfl r.2⟩) (Cert.ReferenceIdeal.Value.run m g)

open Cert.KernelIdeal in
/-- Both runs' results at exact arithmetic: each device ends with its block of the reference's result. -/
theorem value_of {b : Bool} (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hp : PreOK m b)
    (hm : ∀ c : Dev nD, m ((c.tc : Thread nD τ).loc main_arg0) = Layout.blockN ⟨3, ![1, 1024, 1024]⟩ ⟨3, ![2, 1024, 1024]⟩ (Layout.meshBlock [2, 2, 2] ![[2], [], []] c)
          (m' (((0 : Dev Cert.ReferenceIdeal.nD).tc : Thread Cert.ReferenceIdeal.nD Cert.ReferenceIdeal.τ).loc Cert.ReferenceIdeal.main_arg0))
        ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v9)),
      θ_run (defs (F := Ideal)) (onTc (τ := τ) (main (F := Ideal))) ⟨m, fun _ => 0, g⟩ (fun r => ∀ c : Dev nD,
          r.2.mem ((c.tc : Thread nD τ).loc main_v1) = Layout.blockN ⟨3, ![1, 1024, 1024]⟩ ⟨3, ![2, 1024, 1024]⟩ (Layout.meshBlock [2, 2, 2] ![[2], [], []] c) v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have ht : m' (((0 : Dev Cert.ReferenceIdeal.nD).tc : Thread Cert.ReferenceIdeal.nD Cert.ReferenceIdeal.τ).loc Cert.ReferenceIdeal.main_arg1) = table b :=
    ((hm 0).2.symm.trans (hp 0) : _)
  refine ⟨refV (m' (((0 : Dev Cert.ReferenceIdeal.nD).tc : Thread Cert.ReferenceIdeal.nD Cert.ReferenceIdeal.τ).loc Cert.ReferenceIdeal.main_arg0)) (table b), ?_, ?_⟩
  · refine (θ_run defs _ _).mono (fun r h c => ⟨?_, (h.1 c).1, (h.1 c).2.1⟩) (run_main m g hp)
    exact ((h.1 c).2.2.trans (hm (tgt b c)).1).trans (block_eq b _ c)
  · refine (θ_run Cert.ReferenceIdeal.defs _ _).mono (fun r h => ⟨(h 0).1.trans ?_, (h 0).2⟩) (Cert.ReferenceIdeal.Value.run m' g')
    rw [← ht]; rfl

end Cert.Perm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_exchange_Kernel
public import proofs.«01_k».proof.Proof.Gen.Pre_stay_Kernel
public import proofs.«01_k».proof.Proof.Gen.Pre_exchange_ReferenceIdeal
public import proofs.«01_k».proof.Proof.Gen.Pre_stay_ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The body table of the kernel is that of its idealization, read at the machine's floats. -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => rfl

/-- So is the whole table, with the call's region and pipeline. -/
theorem defs_eq : Cert.Kernel.defs (F := Bits) = Cert.KernelIdeal.defs (F := Bits) :=
  congrArg (Pipeline.defs (Cert.Kernel.pcfgs (F := Bits))) bodies_eq

/-- The kernel's frame under the exchange's table: its text is the idealization's. -/
theorem frame_exchange : Cert.quiescent_Kernel := by
  intro m g h
  rw [defs_eq]
  exact Cert.Perm.frame_of (F := Bits) (b := true) m g fun c => Cert.Perm.table_exchange (h c)

/-- The kernel's frame under the identity's table. -/
theorem frame_stay : Cert.quiescent_Kernel_pre_stay_Kernel := by
  intro m g h
  rw [defs_eq]
  exact Cert.Perm.frame_of (F := Bits) (b := false) m g fun c => Cert.Perm.table_stay (h c)

theorem claim : Cert.Claim := ⟨Cert.Kernel.Gen.facts, Cert.KernelIdeal.Gen.facts, Cert.ReferenceIdeal.Gen.facts, Cert.Pre_exchange_Kernel.Gen.facts, Cert.Pre_stay_Kernel.Gen.facts, Cert.Pre_exchange_ReferenceIdeal.Gen.facts, Cert.Pre_stay_ReferenceIdeal.Gen.facts,
  frame_exchange, frame_stay,
  fun m g h => Cert.Perm.frame_of (b := true) m g fun c => Cert.Perm.table_exchange (h c),
  fun m g h => Cert.Perm.frame_of (b := false) m g fun c => Cert.Perm.table_stay (h c),
  fun m g _ => Cert.Perm.frame_ref m g, fun m g _ => Cert.Perm.frame_ref m g, fun m g _ => Cert.Perm.frame_ref m g,
  trivial,
  fun m g m' g' h hm => Cert.Perm.value_of (b := true) m g m' g' (fun c => Cert.Perm.table_exchange (h c)) hm,
  fun m g m' g' h hm => Cert.Perm.value_of (b := false) m g m' g' (fun c => Cert.Perm.table_stay (h c)) hm⟩

end Cert.Proof

end
